-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S2x5x56x2x256 Cert.KernelIdeal.S2x5x56x1x256
  ∧ IdealRules.bf16_pair.Statement Cert.KernelIdeal.S112x256 Cert.KernelIdeal.S56x256
  ∧ IdealRules.bf16_pair.Statement Cert.KernelIdeal.S1x1x56x2x256 Cert.KernelIdeal.S1x1x56x1x256
  ∧ IdealRules.bf16_pair.Statement Cert.KernelIdeal.S1x1x1x2x256 Cert.KernelIdeal.S1x1x1x1x256
  ∧ IdealRules.bf16_pair.Statement Cert.KernelIdeal.S32x256 Cert.KernelIdeal.S16x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x3584 : Shape := ⟨3, ![48, 1, 3584]⟩
abbrev S32000x1792 : Shape := ⟨2, ![32000, 1792]⟩
abbrev S32000x112 : Shape := ⟨2, ![32000, 112]⟩
abbrev S48x3584 : Shape := ⟨2, ![48, 3584]⟩
abbrev S48x1 : Shape := ⟨2, ![48, 1]⟩
abbrev S1280x1792 : Shape := ⟨2, ![1280, 1792]⟩
abbrev S1280x112 : Shape := ⟨2, ![1280, 112]⟩
abbrev S2x5x56x256 : Shape := ⟨4, ![2, 5, 56, 256]⟩
abbrev S48x128 : Shape := ⟨2, ![48, 128]⟩
abbrev S256x112 : Shape := ⟨2, ![256, 112]⟩
abbrev S112x256 : Shape := ⟨2, ![112, 256]⟩
abbrev S56x256 : Shape := ⟨2, ![56, 256]⟩
abbrev S1x1x56x256 : Shape := ⟨4, ![1, 1, 56, 256]⟩
abbrev S48x256 : Shape := ⟨2, ![48, 256]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x1x256 : Shape := ⟨4, ![1, 1, 1, 256]⟩
abbrev S1x256 : Shape := ⟨2, ![1, 256]⟩
abbrev S8x256 : Shape := ⟨2, ![8, 256]⟩
abbrev S16x256 : Shape := ⟨2, ![16, 256]⟩
abbrev S32x256 : Shape := ⟨2, ![32, 256]⟩
abbrev S48 : Shape := ⟨1, ![48]⟩

abbrev nBuf : Space → Nat
  | .hbm => 7
  | .vmem => 12
  | .smem => 0
  | _ => 0

abbrev bufTy : (tb : Table) → Fin (tcTables nBuf tb) → BufTy
  | .hbm, ⟨0, _⟩ => ⟨S48x1x3584, .bf16⟩
  | .hbm, ⟨1, _⟩ => ⟨S32000x1792, .i8⟩
  | .hbm, ⟨2, _⟩ => ⟨S32000x112, .bf16⟩
  | .hbm, ⟨3, _⟩ => ⟨S48x3584, .bf16⟩
  | .hbm, ⟨4, _⟩ => ⟨S48x1, .i32⟩
  | .hbm, ⟨5, _⟩ => ⟨S48x1, .f32⟩
  | .hbm, ⟨6, _⟩ => ⟨S48x1, .f32⟩
  | .local _ .vmem, ⟨0, _⟩ => ⟨S48x3584, .bf16⟩
  | .local _ .vmem, ⟨1, _⟩ => ⟨S1280x1792, .i8⟩
  | .local _ .vmem, ⟨2, _⟩ => ⟨S1280x1792, .i8⟩
  | .local _ .vmem, ⟨3, _⟩ => ⟨S1280x112, .bf16⟩
  | .local _ .vmem, ⟨4, _⟩ => ⟨S1280x112, .bf16⟩
  | .local _ .vmem, ⟨5, _⟩ => ⟨S48x1, .i32⟩
  | .local _ .vmem, ⟨6, _⟩ => ⟨S48x1, .f32⟩
  | .local _ .vmem, ⟨7, _⟩ => ⟨S48x1, .f32⟩
  | .local _ .vmem, ⟨8, _⟩ => ⟨S2x5x56x256, .i32⟩
  | .local _ .vmem, ⟨9, _⟩ => ⟨S48x128, .f32⟩
  | .local _ .vmem, ⟨10, _⟩ => ⟨S48x128, .f32⟩
  | .local _ .vmem, ⟨11, _⟩ => ⟨S48x128, .i32⟩
  | _, _ => ⟨S48x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [BitOps F]

abbrev grid0 : Pipeline.Grid := ⟨1, ![25], ![false]⟩

@[reducible] def k0_t1_loop : Scf.Loop 32 :=
  let c0_i32_1 : BitVec 32 := 0#32
  let c5_i32 : BitVec 32 := 5#32
  let v3 : BitVec 32 := Scalar.addi c0_i32_1 c5_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  v9
def k0_off1 (k0_t1 : Fin k0_t1_loop.trips) : Fin 2 → Nat :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  let v10 : BitVec 32 := v9
  let v11 : Index := Scalar.indexCast v10
  let c0 : Index := 0#32
  ![v11.toNat, 0]
def k0_off2 (k0_t1 : Fin k0_t1_loop.trips) : Fin 4 → Nat :=
  let c0_6 : Index := 0#32
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let v20 : Index := Scalar.indexCast v8
  let c0_7 : Index := 0#32
  let c0_8 : Index := 0#32
  ![0, v20.toNat, 0, 0]
def k0_off3 (k0_t1 : Fin k0_t1_loop.trips) : Fin 4 → Nat :=
  let c1 : Index := 1#32
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let v29 : Index := Scalar.indexCast v8
  let c0_10 : Index := 0#32
  let c0_11 : Index := 0#32
  ![1, v29.toNat, 0, 0]
@[reducible] def k0_t2_loop : Scf.Loop 32 :=
  let c0_i32_12 : BitVec 32 := 0#32
  let c14_i32 : BitVec 32 := 14#32
  let v34 : BitVec 32 := Scalar.addi c0_i32_12 c14_i32
  let c1_i32_13 : BitVec 32 := 1#32
  ⟨c0_i32_12, v34, c1_i32_13⟩
def k0_mult2 (k0_t2 : Fin k0_t2_loop.trips) : BitVec 32 :=
  let c0_i32_12 : BitVec 32 := 0#32
  let c1_i32_13 : BitVec 32 := 1#32
  let arg12 : BitVec 32 := Scf.iv c0_i32_12 c1_i32_13 k0_t2
  let c128_i32 : BitVec 32 := 128#32
  let v82 : BitVec 32 := Scalar.muli arg12 c128_i32
  v82
def k0_off4 (k0_t1 : Fin k0_t1_loop.trips) (k0_t2 : Fin k0_t2_loop.trips) : Fin 2 → Nat :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  let v10 : BitVec 32 := v9
  let v84 : Index := Scalar.indexCast v10
  let c0_i32_12 : BitVec 32 := 0#32
  let c1_i32_13 : BitVec 32 := 1#32
  let arg12 : BitVec 32 := Scf.iv c0_i32_12 c1_i32_13 k0_t2
  let c128_i32 : BitVec 32 := 128#32
  let v82 : BitVec 32 := Scalar.muli arg12 c128_i32
  let v83 : BitVec 32 := v82
  let v85 : Index := Scalar.indexCast v83
  ![v84.toNat, v85.toNat]
def k0_off5 (k0_t1 : Fin k0_t1_loop.trips) (k0_t2 : Fin k0_t2_loop.trips) (c0_i32_47 : BitVec 32) : Fin 4 → Nat :=
  let c0_48 : Index := 0#32
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let v105 : Index := Scalar.indexCast v8
  let c0_i32_12 : BitVec 32 := 0#32
  let c1_i32_13 : BitVec 32 := 1#32
  let arg12 : BitVec 32 := Scf.iv c0_i32_12 c1_i32_13 k0_t2
  let c4_i32 : BitVec 32 := 4#32
  let v103 : BitVec 32 := Scalar.muli arg12 c4_i32
  let v104 : BitVec 32 := Scalar.addi v103 c0_i32_47
  let v106 : Index := Scalar.indexCast v104
  let c0_49 : Index := 0#32
  ![0, v105.toNat, v106.toNat, 0]
def k0_off6 (k0_t1 : Fin k0_t1_loop.trips) (k0_t2 : Fin k0_t2_loop.trips) (c0_i32_51 : BitVec 32) : Fin 4 → Nat :=
  let c1_52 : Index := 1#32
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let v117 : Index := Scalar.indexCast v8
  let c0_i32_12 : BitVec 32 := 0#32
  let c1_i32_13 : BitVec 32 := 1#32
  let arg12 : BitVec 32 := Scf.iv c0_i32_12 c1_i32_13 k0_t2
  let c4_i32_50 : BitVec 32 := 4#32
  let v115 : BitVec 32 := Scalar.muli arg12 c4_i32_50
  let v116 : BitVec 32 := Scalar.addi v115 c0_i32_51
  let v118 : Index := Scalar.indexCast v116
  let c0_53 : Index := 0#32
  ![1, v117.toNat, v118.toNat, 0]
def k0_mult3 (k0_t2 : Fin k0_t2_loop.trips) : BitVec 32 :=
  let c0_i32_12 : BitVec 32 := 0#32
  let c1_i32_13 : BitVec 32 := 1#32
  let arg12 : BitVec 32 := Scf.iv c0_i32_12 c1_i32_13 k0_t2
  let c256_i32_77 : BitVec 32 := 256#32
  let v200 : BitVec 32 := Scalar.muli arg12 c256_i32_77
  v200
def k0_off7 (k0_t2 : Fin k0_t2_loop.trips) : Fin 2 → Nat :=
  let c0_78 : Index := 0#32
  let c0_i32_12 : BitVec 32 := 0#32
  let c1_i32_13 : BitVec 32 := 1#32
  let arg12 : BitVec 32 := Scf.iv c0_i32_12 c1_i32_13 k0_t2
  let c256_i32_77 : BitVec 32 := 256#32
  let v200 : BitVec 32 := Scalar.muli arg12 c256_i32_77
  let v201 : BitVec 32 := v200
  let v202 : Index := Scalar.indexCast v201
  ![0, v202.toNat]
def k0_cond2 (i : grid0.Coords) : BitVec 1 :=
  let arg0 : BitVec 32 := BitVec.ofNat 32 (i 0).val
  let c24_i32 : BitVec 32 := 24#32
  let v4 : BitVec 1 := Scalar.cmpi .eq arg0 c24_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S48x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x1792 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x112 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S48x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
abbrev S48x1x3584 : Shape := ⟨3, ![48, 1, 3584]⟩
abbrev S32000x1792 : Shape := ⟨2, ![32000, 1792]⟩
abbrev S32000x112 : Shape := ⟨2, ![32000, 112]⟩
abbrev S48x3584 : Shape := ⟨2, ![48, 3584]⟩
abbrev S48x1 : Shape := ⟨2, ![48, 1]⟩
abbrev S1280x1792 : Shape := ⟨2, ![1280, 1792]⟩
abbrev S1280x112 : Shape := ⟨2, ![1280, 112]⟩
abbrev S2x5x56x256 : Shape := ⟨4, ![2, 5, 56, 256]⟩
abbrev S2x5x56x2x256 : Shape := ⟨5, ![2, 5, 56, 2, 256]⟩
abbrev S2x5x56x1x256 : Shape := ⟨5, ![2, 5, 56, 1, 256]⟩
abbrev S48x128 : Shape := ⟨2, ![48, 128]⟩
abbrev S256x112 : Shape := ⟨2, ![256, 112]⟩
abbrev S112x256 : Shape := ⟨2, ![112, 256]⟩
abbrev S56x256 : Shape := ⟨2, ![56, 256]⟩
abbrev S1x1x56x256 : Shape := ⟨4, ![1, 1, 56, 256]⟩
abbrev S1x1x56x2x256 : Shape := ⟨5, ![1, 1, 56, 2, 256]⟩
abbrev S1x1x56x1x256 : Shape := ⟨5, ![1, 1, 56, 1, 256]⟩
abbrev S48x256 : Shape := ⟨2, ![48, 256]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x1x256 : Shape := ⟨4, ![1, 1, 1, 256]⟩
abbrev S1x1x1x2x256 : Shape := ⟨5, ![1, 1, 1, 2, 256]⟩
abbrev S1x1x1x1x256 : Shape := ⟨5, ![1, 1, 1, 1, 256]⟩
abbrev S1x256 : Shape := ⟨2, ![1, 256]⟩
abbrev S8x256 : Shape := ⟨2, ![8, 256]⟩
abbrev S16x256 : Shape := ⟨2, ![16, 256]⟩
abbrev S32x256 : Shape := ⟨2, ![32, 256]⟩
abbrev S48 : Shape := ⟨1, ![48]⟩

abbrev nBuf : Space → Nat
  | .hbm => 7
  | .vmem => 12
  | .smem => 0
  | _ => 0

abbrev bufTy : (tb : Table) → Fin (tcTables nBuf tb) → BufTy
  | .hbm, ⟨0, _⟩ => ⟨S48x1x3584, .bf16⟩
  | .hbm, ⟨1, _⟩ => ⟨S32000x1792, .i8⟩
  | .hbm, ⟨2, _⟩ => ⟨S32000x112, .bf16⟩
  | .hbm, ⟨3, _⟩ => ⟨S48x3584, .bf16⟩
  | .hbm, ⟨4, _⟩ => ⟨S48x1, .i32⟩
  | .hbm, ⟨5, _⟩ => ⟨S48x1, .f32⟩
  | .hbm, ⟨6, _⟩ => ⟨S48x1, .f32⟩
  | .local _ .vmem, ⟨0, _⟩ => ⟨S48x3584, .bf16⟩
  | .local _ .vmem, ⟨1, _⟩ => ⟨S1280x1792, .i8⟩
  | .local _ .vmem, ⟨2, _⟩ => ⟨S1280x1792, .i8⟩
  | .local _ .vmem, ⟨3, _⟩ => ⟨S1280x112, .bf16⟩
  | .local _ .vmem, ⟨4, _⟩ => ⟨S1280x112, .bf16⟩
  | .local _ .vmem, ⟨5, _⟩ => ⟨S48x1, .i32⟩
  | .local _ .vmem, ⟨6, _⟩ => ⟨S48x1, .f32⟩
  | .local _ .vmem, ⟨7, _⟩ => ⟨S48x1, .f32⟩
  | .local _ .vmem, ⟨8, _⟩ => ⟨S2x5x56x2x256, .bf16⟩
  | .local _ .vmem, ⟨9, _⟩ => ⟨S48x128, .f32⟩
  | .local _ .vmem, ⟨10, _⟩ => ⟨S48x128, .f32⟩
  | .local _ .vmem, ⟨11, _⟩ => ⟨S48x128, .i32⟩
  | _, _ => ⟨S48x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32_1 : BitVec 32 := 0#32
  let c5_i32 : BitVec 32 := 5#32
  let v3 : BitVec 32 := Scalar.addi c0_i32_1 c5_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  v9
def k0_off1 (k0_t1 : Fin k0_t1_loop.trips) : Fin 2 → Nat :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  let v10 : BitVec 32 := v9
  let v11 : Index := Scalar.indexCast v10
  let c0 : Index := 0#32
  ![v11.toNat, 0]
def k0_off2 (k0_t1 : Fin k0_t1_loop.trips) : Fin 5 → Nat :=
  let c0_6 : Index := 0#32
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let v20 : Index := Scalar.indexCast v8
  let c0_7 : Index := 0#32
  let c0_8 : Index := 0#32
  ![0, v20.toNat, 0, 0, 0]
def k0_off3 (k0_t1 : Fin k0_t1_loop.trips) : Fin 5 → Nat :=
  let c1 : Index := 1#32
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let v29 : Index := Scalar.indexCast v8
  let c0_10 : Index := 0#32
  let c0_11 : Index := 0#32
  ![1, v29.toNat, 0, 0, 0]
@[reducible] def k0_t2_loop : Scf.Loop 32 :=
  let c0_i32_12 : BitVec 32 := 0#32
  let c14_i32 : BitVec 32 := 14#32
  let v34 : BitVec 32 := Scalar.addi c0_i32_12 c14_i32
  let c1_i32_13 : BitVec 32 := 1#32
  ⟨c0_i32_12, v34, c1_i32_13⟩
def k0_mult2 (k0_t2 : Fin k0_t2_loop.trips) : BitVec 32 :=
  let c0_i32_12 : BitVec 32 := 0#32
  let c1_i32_13 : BitVec 32 := 1#32
  let arg12 : BitVec 32 := Scf.iv c0_i32_12 c1_i32_13 k0_t2
  let c128_i32 : BitVec 32 := 128#32
  let v82 : BitVec 32 := Scalar.muli arg12 c128_i32
  v82
def k0_off4 (k0_t1 : Fin k0_t1_loop.trips) (k0_t2 : Fin k0_t2_loop.trips) : Fin 2 → Nat :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  let v10 : BitVec 32 := v9
  let v84 : Index := Scalar.indexCast v10
  let c0_i32_12 : BitVec 32 := 0#32
  let c1_i32_13 : BitVec 32 := 1#32
  let arg12 : BitVec 32 := Scf.iv c0_i32_12 c1_i32_13 k0_t2
  let c128_i32 : BitVec 32 := 128#32
  let v82 : BitVec 32 := Scalar.muli arg12 c128_i32
  let v83 : BitVec 32 := v82
  let v85 : Index := Scalar.indexCast v83
  ![v84.toNat, v85.toNat]
def k0_off5 (k0_t1 : Fin k0_t1_loop.trips) (k0_t2 : Fin k0_t2_loop.trips) (c0_i32_47 : BitVec 32) : Fin 5 → Nat :=
  let c0_48 : Index := 0#32
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let v105 : Index := Scalar.indexCast v8
  let c0_i32_12 : BitVec 32 := 0#32
  let c1_i32_13 : BitVec 32 := 1#32
  let arg12 : BitVec 32 := Scf.iv c0_i32_12 c1_i32_13 k0_t2
  let c4_i32 : BitVec 32 := 4#32
  let v103 : BitVec 32 := Scalar.muli arg12 c4_i32
  let v104 : BitVec 32 := Scalar.addi v103 c0_i32_47
  let v106 : Index := Scalar.indexCast v104
  let c0_49 : Index := 0#32
  ![0, v105.toNat, v106.toNat, 0, 0]
def k0_off6 (k0_t1 : Fin k0_t1_loop.trips) (k0_t2 : Fin k0_t2_loop.trips) (c0_i32_51 : BitVec 32) : Fin 5 → Nat :=
  let c1_52 : Index := 1#32
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let v117 : Index := Scalar.indexCast v8
  let c0_i32_12 : BitVec 32 := 0#32
  let c1_i32_13 : BitVec 32 := 1#32
  let arg12 : BitVec 32 := Scf.iv c0_i32_12 c1_i32_13 k0_t2
  let c4_i32_50 : BitVec 32 := 4#32
  let v115 : BitVec 32 := Scalar.muli arg12 c4_i32_50
  let v116 : BitVec 32 := Scalar.addi v115 c0_i32_51
  let v118 : Index := Scalar.indexCast v116
  let c0_53 : Index := 0#32
  ![1, v117.toNat, v118.toNat, 0, 0]
def k0_mult3 (k0_t2 : Fin k0_t2_loop.trips) : BitVec 32 :=
  let c0_i32_12 : BitVec 32 := 0#32
  let c1_i32_13 : BitVec 32 := 1#32
  let arg12 : BitVec 32 := Scf.iv c0_i32_12 c1_i32_13 k0_t2
  let c256_i32_77 : BitVec 32 := 256#32
  let v200 : BitVec 32 := Scalar.muli arg12 c256_i32_77
  v200
def k0_off7 (k0_t2 : Fin k0_t2_loop.trips) : Fin 2 → Nat :=
  let c0_78 : Index := 0#32
  let c0_i32_12 : BitVec 32 := 0#32
  let c1_i32_13 : BitVec 32 := 1#32
  let arg12 : BitVec 32 := Scf.iv c0_i32_12 c1_i32_13 k0_t2
  let c256_i32_77 : BitVec 32 := 256#32
  let v200 : BitVec 32 := Scalar.muli arg12 c256_i32_77
  let v201 : BitVec 32 := v200
  let v202 : Index := Scalar.indexCast v201
  ![0, v202.toNat]
def k0_cond2 (i : grid0.Coords) : BitVec 1 :=
  let arg0 : BitVec 32 := BitVec.ofNat 32 (i 0).val
  let c24_i32 : BitVec 32 := 24#32
  let v4 : BitVec 1 := Scalar.cmpi .eq arg0 c24_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S48x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x1792 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x112 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S48x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S48x1x3584 : Shape := ⟨3, ![48, 1, 3584]⟩
abbrev S32000x1792 : Shape := ⟨2, ![32000, 1792]⟩
abbrev S32000x112 : Shape := ⟨2, ![32000, 112]⟩
abbrev S32000x112x16 : Shape := ⟨3, ![32000, 112, 16]⟩
abbrev S_ : Shape := ⟨0, ![]⟩
abbrev S48x3584 : Shape := ⟨2, ![48, 3584]⟩
abbrev S48x1792 : Shape := ⟨2, ![48, 1792]⟩
abbrev S48x32000 : Shape := ⟨2, ![48, 32000]⟩
abbrev S48 : Shape := ⟨1, ![48]⟩
abbrev S48x1 : Shape := ⟨2, ![48, 1]⟩

abbrev nBuf : Space → Nat
  | .hbm => 49
  | .vmem => 0
  | .smem => 0
  | _ => 0

abbrev bufTy : (tb : Table) → Fin (tcTables nBuf tb) → BufTy
  | .hbm, ⟨0, _⟩ => ⟨S48x1x3584, .bf16⟩
  | .hbm, ⟨1, _⟩ => ⟨S32000x1792, .i8⟩
  | .hbm, ⟨2, _⟩ => ⟨S32000x112, .bf16⟩
  | .hbm, ⟨3, _⟩ => ⟨S32000x112x16, .bf16⟩
  | .hbm, ⟨4, _⟩ => ⟨S32000x1792, .bf16⟩
  | .hbm, ⟨5, _⟩ => ⟨S32000x1792, .i32⟩
  | .hbm, ⟨6, _⟩ => ⟨S_, .i32⟩
  | .hbm, ⟨7, _⟩ => ⟨S32000x1792, .i32⟩
  | .hbm, ⟨8, _⟩ => ⟨S32000x1792, .i32⟩
  | .hbm, ⟨9, _⟩ => ⟨S32000x1792, .bf16⟩
  | .hbm, ⟨10, _⟩ => ⟨S_, .bf16⟩
  | .hbm, ⟨11, _⟩ => ⟨S32000x1792, .bf16⟩
  | .hbm, ⟨12, _⟩ => ⟨S32000x1792, .bf16⟩
  | .hbm, ⟨13, _⟩ => ⟨S32000x1792, .bf16⟩
  | .hbm, ⟨14, _⟩ => ⟨S_, .i32⟩
  | .hbm, ⟨15, _⟩ => ⟨S32000x1792, .i32⟩
  | .hbm, ⟨16, _⟩ => ⟨S32000x1792, .i32⟩
  | .hbm, ⟨17, _⟩ => ⟨S32000x1792, .bf16⟩
  | .hbm, ⟨18, _⟩ => ⟨S_, .bf16⟩
  | .hbm, ⟨19, _⟩ => ⟨S32000x1792, .bf16⟩
  | .hbm, ⟨20, _⟩ => ⟨S32000x1792, .bf16⟩
  | .hbm, ⟨21, _⟩ => ⟨S32000x1792, .bf16⟩
  | .hbm, ⟨22, _⟩ => ⟨S48x3584, .bf16⟩
  | .hbm, ⟨23, _⟩ => ⟨S48x1792, .bf16⟩
  | .hbm, ⟨24, _⟩ => ⟨S48x1792, .bf16⟩
  | .hbm, ⟨25, _⟩ => ⟨S48x32000, .f32⟩
  | .hbm, ⟨26, _⟩ => ⟨S48x32000, .f32⟩
  | .hbm, ⟨27, _⟩ => ⟨S48x32000, .f32⟩
  | .hbm, ⟨28, _⟩ => ⟨S_, .f32⟩
  | .hbm, ⟨29, _⟩ => ⟨S48, .f32⟩
  | .hbm, ⟨30, _⟩ => ⟨S48x32000, .i32⟩
  | .hbm, ⟨31, _⟩ => ⟨S_, .f32⟩
  | .hbm, ⟨32, _⟩ => ⟨S_, .i32⟩
  | .hbm, ⟨33, _⟩ => ⟨S48, .f32⟩
  | .hbm, ⟨34, _⟩ => ⟨S48, .i32⟩
  | .hbm, ⟨35, _⟩ => ⟨S48x32000, .i32⟩
  | .hbm, ⟨36, _⟩ => ⟨S48x1, .i32⟩
  | .hbm, ⟨37, _⟩ => ⟨S48x32000, .i32⟩
  | .hbm, ⟨38, _⟩ => ⟨S48x32000, .i1⟩
  | .hbm, ⟨39, _⟩ => ⟨S_, .f32⟩
  | .hbm, ⟨40, _⟩ => ⟨S_, .f32⟩
  | .hbm, ⟨41, _⟩ => ⟨S48x32000, .f32⟩
  | .hbm, ⟨42, _⟩ => ⟨S48x32000, .f32⟩
  | .hbm, ⟨43, _⟩ => ⟨S_, .f32⟩
  | .hbm, ⟨44, _⟩ => ⟨S48, .f32⟩
  | .hbm, ⟨45, _⟩ => ⟨S48, .f32⟩
  | .hbm, ⟨46, _⟩ => ⟨S48x1, .i32⟩
  | .hbm, ⟨47, _⟩ => ⟨S48x1, .f32⟩
  | .hbm, ⟨48, _⟩ => ⟨S48x1, .f32⟩
  | _, _ => ⟨S48x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_c : Ref sig .tc := ⟨.hbm, 32, rfl⟩
abbrev main_call0_v1_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.P.Trip.lean ====
/-
  One trip of the loop over the five 256-row tiles of a vocabulary block (`k0_t1_loop`), run once at a symbolic trip.
  What the trip leaves in the scratch buffers is found by the run.
-/
module

public import proofs.«01_k».proof.Proof.Gen.Kernel.Frame
public import proofs.«01_k».proof.Proof.Gen.Kernel.Loops
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra: the frame kit's. -/
local notation "𝕄" => MT nD τ sig Unit (Elt F) ℕ (UR sig nD τ) ℕ

abbrev 𝒱₀ : Variants := Variants.none

/-- The contents a memref's buffer may hold. -/
abbrev Held {S : Shape} {e : EltTy} (M : Memref sig .tc .vmem S e) : Type := BufTy.Contents (Elt F) M.view.ty

/-- A memref's buffer held whole on core `c`. -/
abbrev pt (c : Dev nD) {S : Shape} {e : EltTy} (M : Memref sig .tc .vmem S e) (f : Held (F := F) M) : sProp 𝕄 :=
  (M.view.loc (c : Thread nD τ)) ↦[M.view.set]{fullShare} f

section

variable (c : Dev nD) (i : grid0.Coords)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x256 .i32) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)
  (arg0 : BitVec 32)

/-- What one trip touches: the three operand blocks, read, and the four scratch buffers. -/
abbrev Trip (X1 : Held (F := F) arg1) (X2 : Held (F := F) arg2) (X3 : Held (F := F) arg3)
    (f7 : Held (F := F) arg7) (f8 : Held (F := F) arg8) (f9 : Held (F := F) arg9) (f10 : Held (F := F) arg10) : sProp 𝕄 :=
  iprop(pt c arg1 X1 ∗ pt c arg2 X2 ∗ pt c arg3 X3 ∗ pt c arg7 f7 ∗ pt c arg8 f8 ∗ pt c arg9 f9 ∗ pt c arg10 f10)

/-- One trip at a symbolic trip number: it ends with each scratch buffer at a value the run finds, a function of what the
    scratch held before. -/
@[irreducible] def trip (k : Fin k0_t1_loop.trips) (X1 : Held (F := F) arg1) (X2 : Held (F := F) arg2) (X3 : Held (F := F) arg3)
    (f7 : Held (F := F) arg7) (f8 : Held (F := F) arg8) (f9 : Held (F := F) arg9) (f10 : Held (F := F) arg10) :
    Σ' (R7 : Held (F := F) arg7) (R8 : Held (F := F) arg8) (R9 : Held (F := F) arg9), { R10 : Held (F := F) arg10 //
      ∀ (E : Set ℕ), Trip c arg1 arg2 arg3 arg7 arg8 arg9 arg10 X1 X2 X3 f7 f8 f9 f10
        ⊢ wp frame (wpE (defs₀ (F := F)) 𝒱₀ (c : Thread nD τ) none) E
            (k0_t1_body (F := F) i arg1 harg1 arg2 harg2 arg3 harg3 arg4 harg4 arg5 harg5 arg6 harg6 arg7 harg7 arg8 harg8 arg9 harg9 arg10 harg10 arg0 k ())
            (fun _ => Trip c arg1 arg2 arg3 arg7 arg8 arg9 arg10 X1 X2 X3 R7 R8 R9 R10) } := by
  have hk : k.val < 5 := Nat.lt_of_lt_of_le k.isLt k0_t1_abs.2.1
  refine ⟨?_, ?_, ?_, ?_, fun E => ?run⟩
  case run =>
    unfold k0_t1_body
    iintro ⟨H1, H2, H3, H7, H8, H9, H10⟩
    sl_exec
    sl_step
    sl_close

end

end Cert.Kernel.Hand

end
-- ==== Proof.P.Body.lean ====
/-
  The kernel body on any whole staging memrefs at any grid point: the two conditionals on the grid coordinate and the
  loop over the five tiles. What it leaves is spelt as a recursion on one trip's results (`Trip.lean`).
-/
module

public import proofs.«01_k».proof.Proof.P.Trip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra: the frame kit's. -/
local notation "𝕄" => MT nD τ sig Unit (Elt F) ℕ (UR sig nD τ) ℕ

/-- The first conditional's flag: 1 at grid coordinate 0. -/
abbrev cond1 (arg0 : BitVec 32) : BitVec 1 := Scalar.cmpi .ne (Scalar.extui (Scalar.cmpi .eq arg0 0#32) : BitVec 32) 0#32

section

variable (c : Dev nD) (i : grid0.Coords)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x256 .i32) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)
  (arg0 : BitVec 32)

/-- What the four scratch buffers hold. -/
structure Scr (arg7 : Memref sig .tc .vmem S2x5x56x256 .i32) (arg8 arg9 : Memref sig .tc .vmem S48x128 .f32)
    (arg10 : Memref sig .tc .vmem S48x128 .i32) : Type where
  f7 : Held (F := F) arg7
  f8 : Held (F := F) arg8
  f9 : Held (F := F) arg9
  f10 : Held (F := F) arg10

/-- One trip's effect on the scratch. -/
def stepScr (k : Fin k0_t1_loop.trips) (X1 : Held (F := F) arg1) (X2 : Held (F := F) arg2) (X3 : Held (F := F) arg3)
    (s : Scr (F := F) arg7 arg8 arg9 arg10) : Scr (F := F) arg7 arg8 arg9 arg10 :=
  let T := trip c i arg1 harg1 arg2 harg2 arg3 harg3 arg4 harg4 arg5 harg5 arg6 harg6 arg7 harg7 arg8 harg8 arg9 harg9 arg10 harg10 arg0 k X1 X2 X3 s.f7 s.f8 s.f9 s.f10
  ⟨T.1, T.2.1, T.2.2.1, T.2.2.2.1⟩

/-- The scratch before trip `n`, from what it held at loop entry. -/
def scrAt (X1 : Held (F := F) arg1) (X2 : Held (F := F) arg2) (X3 : Held (F := F) arg3)
    (s : Scr (F := F) arg7 arg8 arg9 arg10) : ℕ → Scr (F := F) arg7 arg8 arg9 arg10
  | 0 => s
  | n + 1 => if h : n < k0_t1_loop.trips then
      stepScr c i arg1 harg1 arg2 harg2 arg3 harg3 arg4 harg4 arg5 harg5 arg6 harg6 arg7 harg7 arg8 harg8 arg9 harg9 arg10 harg10 arg0 ⟨n, h⟩ X1 X2 X3 (scrAt X1 X2 X3 s n)
      else scrAt X1 X2 X3 s n

/-- The operand blocks and the scratch, held at `s`. -/
abbrev TripS (X1 : Held (F := F) arg1) (X2 : Held (F := F) arg2) (X3 : Held (F := F) arg3) (s : Scr (F := F) arg7 arg8 arg9 arg10) : sProp 𝕄 :=
  Trip c arg1 arg2 arg3 arg7 arg8 arg9 arg10 X1 X2 X3 s.f7 s.f8 s.f9 s.f10

/-- The whole loop over the five tiles. -/
theorem loop_run (E : Set ℕ) (X1 : Held (F := F) arg1) (X2 : Held (F := F) arg2) (X3 : Held (F := F) arg3) (s : Scr (F := F) arg7 arg8 arg9 arg10)
    {kk : Unit → Prog (TpuEff nD τ sig (Elt F) Λ₀ .tc) PUnit} {Q : PUnit → sProp 𝕄} :
    iprop(TripS c arg1 arg2 arg3 arg7 arg8 arg9 arg10 X1 X2 X3 s
      ∗ (TripS c arg1 arg2 arg3 arg7 arg8 arg9 arg10 X1 X2 X3
          (scrAt c i arg1 harg1 arg2 harg2 arg3 harg3 arg4 harg4 arg5 harg5 arg6 harg6 arg7 harg7 arg8 harg8 arg9 harg9 arg10 harg10 arg0 X1 X2 X3 s k0_t1_loop.trips)
          -∗ wp frame (wpE (defs₀ (F := F)) 𝒱₀ (c : Thread nD τ) none) E (kk ()) Q))
      ⊢ wp frame (wpE (defs₀ (F := F)) 𝒱₀ (c : Thread nD τ) none) E
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg0) >>= kk) Q := by
  have key : TripS c arg1 arg2 arg3 arg7 arg8 arg9 arg10 X1 X2 X3 s
      ⊢ iprop((∀ _ : Unit, TripS c arg1 arg2 arg3 arg7 arg8 arg9 arg10 X1 X2 X3
          (scrAt c i arg1 harg1 arg2 harg2 arg3 harg3 arg4 harg4 arg5 harg5 arg6 harg6 arg7 harg7 arg8 harg8 arg9 harg9 arg10 harg10 arg0 X1 X2 X3 s k0_t1_loop.trips)
          -∗ wp frame (wpE (defs₀ (F := F)) 𝒱₀ (c : Thread nD τ) none) E (kk ()) Q)
        -∗ wp frame (wpE (defs₀ (F := F)) 𝒱₀ (c : Thread nD τ) none) E
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg0) >>= kk) Q) :=
    Scf.wp_for_bind frame (wpE (defs₀ (F := F)) 𝒱₀ (c : Thread nD τ) none) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10 arg0)
      (fun n _ => TripS c arg1 arg2 arg3 arg7 arg8 arg9 arg10 X1 X2 X3 (scrAt c i arg1 harg1 arg2 harg2 arg3 harg3 arg4 harg4 arg5 harg5 arg6 harg6 arg7 harg7 arg8 harg8 arg9 harg9 arg10 harg10 arg0 X1 X2 X3 s n))
      (fun k acc => by
        rw [scrAt, dif_pos k.isLt]
        exact (trip c i arg1 harg1 arg2 harg2 arg3 harg3 arg4 harg4 arg5 harg5 arg6 harg6 arg7 harg7 arg8 harg8 arg9 harg9 arg10 harg10 arg0 k X1 X2 X3 _ _ _ _).2.2.2.2 E)
  iintro ⟨H, HK⟩
  iapply key $$ [H]
  · iexact H
  iintro %acc H
  iapply HK $$ H

/-- The scratch after the first conditional's stores: the running maxima at minus infinity, the index at zero. -/
abbrev scrInit (s : Scr (F := F) arg7 arg8 arg9 arg10) : Scr (F := F) arg7 arg8 arg9 arg10 :=
  ⟨s.f7, arg8.view.writes (Elt F) arg8.view.junk [⟨Rect.unit ![0, 0] S48x128.size inb_S48x128_S48x128_0_0, k0_pay1⟩],
    arg9.view.writes (Elt F) arg9.view.junk [⟨Rect.unit ![0, 0] S48x128.size inb_S48x128_S48x128_0_0, k0_pay2⟩],
    arg10.view.writes (Elt F) arg10.view.junk [⟨Rect.unit ![0, 0] S48x128.size inb_S48x128_S48x128_0_0, k0_pay3⟩]⟩

/-- A middle point: the loop alone. -/
theorem body_mid (h1 : ¬ cond1 (BitVec.ofNat 32 (i 0).val) = 1#1) (h2 : ¬ k0_cond2 i = 1#1)
    (E : Set ℕ) (X1 : Held (F := F) arg1) (X2 : Held (F := F) arg2) (X3 : Held (F := F) arg3) (s : Scr (F := F) arg7 arg8 arg9 arg10)
    (K : PUnit → sProp 𝕄) :
    iprop(TripS c arg1 arg2 arg3 arg7 arg8 arg9 arg10 X1 X2 X3 s
      ∗ (TripS c arg1 arg2 arg3 arg7 arg8 arg9 arg10 X1 X2 X3
          (scrAt c i arg1 harg1 arg2 harg2 arg3 harg3 arg4 harg4 arg5 harg5 arg6 harg6 arg7 harg7 arg8 harg8 arg9 harg9 arg10 harg10 (BitVec.ofNat 32 (i 0).val) X1 X2 X3 s k0_t1_loop.trips) -∗ K ⟨⟩))
      ⊢ wp frame (wpE (defs₀ (F := F)) 𝒱₀ (c : Thread nD τ) none) E (cc0_q4_head_top1 (F := F) i arg1 harg1 arg2 harg2 arg3 harg3 arg4 harg4 arg5 harg5 arg6 harg6 arg7 harg7 arg8 harg8 arg9 harg9 arg10 harg10) K := by
  rw [cc0_q4_head_top1_eq_skeleton]
  unfold cc0_q4_head_top1_skel
  rw [dif_neg h1, dif_neg h2]
  iintro ⟨H, HK⟩
  sl_exec
  iapply loop_run
  isplitl [H]; · iexact H
  iintro H
  sl_step
  iapply HK $$ H

/-- The first point: the scratch is initialised, then the loop. -/
theorem body_first (h1 : cond1 (BitVec.ofNat 32 (i 0).val) = 1#1) (h2 : ¬ k0_cond2 i = 1#1)
    (E : Set ℕ) (X1 : Held (F := F) arg1) (X2 : Held (F := F) arg2) (X3 : Held (F := F) arg3) (s : Scr (F := F) arg7 arg8 arg9 arg10)
    (K : PUnit → sProp 𝕄) :
    iprop(TripS c arg1 arg2 arg3 arg7 arg8 arg9 arg10 X1 X2 X3 s
      ∗ (TripS c arg1 arg2 arg3 arg7 arg8 arg9 arg10 X1 X2 X3
          (scrAt c i arg1 harg1 arg2 harg2 arg3 harg3 arg4 harg4 arg5 harg5 arg6 harg6 arg7 harg7 arg8 harg8 arg9 harg9 arg10 harg10 (BitVec.ofNat 32 (i 0).val) X1 X2 X3 (scrInit arg7 arg8 arg9 arg10 s) k0_t1_loop.trips) -∗ K ⟨⟩))
      ⊢ wp frame (wpE (defs₀ (F := F)) 𝒱₀ (c : Thread nD τ) none) E (cc0_q4_head_top1 (F := F) i arg1 harg1 arg2 harg2 arg3 harg3 arg4 harg4 arg5 harg5 arg6 harg6 arg7 harg7 arg8 harg8 arg9 harg9 arg10 harg10) K := by
  rw [cc0_q4_head_top1_eq_skeleton]
  unfold cc0_q4_head_top1_skel
  rw [dif_pos h1, dif_neg h2]
  iintro ⟨⟨H1, H2, H3, H7, H8, H9, H10⟩, HK⟩
  sl_exec
  iapply (loop_run c i arg1 harg1 arg2 harg2 arg3 harg3 arg4 harg4 arg5 harg5 arg6 harg6 arg7 harg7 arg8 harg8 arg9 harg9 arg10 harg10 (BitVec.ofNat 32 (i 0).val) E X1 X2 X3 (scrInit arg7 arg8 arg9 arg10 s))
  isplitl [H1 H2 H3 H7 H8 H9 H10]
  · dsimp only [TripS, Trip, scrInit]
    sl_close
  iintro H
  sl_step
  iapply HK $$ H

/-- The last point: the loop, then the three results read off the scratch. -/
theorem body_last (h1 : ¬ cond1 (BitVec.ofNat 32 (i 0).val) = 1#1) (h2 : k0_cond2 i = 1#1)
    (E : Set ℕ) (X1 : Held (F := F) arg1) (X2 : Held (F := F) arg2) (X3 : Held (F := F) arg3) (s s' : Scr (F := F) arg7 arg8 arg9 arg10)
    (hs' : s' = scrAt c i arg1 harg1 arg2 harg2 arg3 harg3 arg4 harg4 arg5 harg5 arg6 harg6 arg7 harg7 arg8 harg8 arg9 harg9 arg10 harg10 (BitVec.ofNat 32 (i 0).val) X1 X2 X3 s k0_t1_loop.trips)
    (f4 : Held (F := F) arg4) (f5 : Held (F := F) arg5) (f6 : Held (F := F) arg6) (K : PUnit → sProp 𝕄) :
    iprop(TripS c arg1 arg2 arg3 arg7 arg8 arg9 arg10 X1 X2 X3 s ∗ pt c arg4 f4 ∗ pt c arg5 f5 ∗ pt c arg6 f6
      ∗ (iprop(TripS c arg1 arg2 arg3 arg7 arg8 arg9 arg10 X1 X2 X3 s'
          ∗ pt c arg4 (arg4.view.writes (Elt F) f4 [⟨Rect.unit ![0, 0] S48x1.size inb_S48x1_S48x1_0_0,
              k0_pay8 (arg8.view.readAt (Elt F) (Rect.unit (s := S48x128) ![0, 0] S48x128.size inb_S48x128_S48x128_0_0).toLoadRect s'.f8)
                (arg10.view.readAt (Elt F) (Rect.unit (s := S48x128) ![0, 0] S48x128.size inb_S48x128_S48x128_0_0).toLoadRect s'.f10)⟩])
          ∗ pt c arg5 (arg5.view.writes (Elt F) f5 [⟨Rect.unit ![0, 0] S48x1.size inb_S48x1_S48x1_0_0,
              k0_pay9 (arg8.view.readAt (Elt F) (Rect.unit (s := S48x128) ![0, 0] S48x128.size inb_S48x128_S48x128_0_0).toLoadRect s'.f8)
                (arg10.view.readAt (Elt F) (Rect.unit (s := S48x128) ![0, 0] S48x128.size inb_S48x128_S48x128_0_0).toLoadRect s'.f10)
                (arg9.view.readAt (Elt F) (Rect.unit (s := S48x128) ![0, 0] S48x128.size inb_S48x128_S48x128_0_0).toLoadRect s'.f9)⟩])
          ∗ pt c arg6 (arg6.view.writes (Elt F) f6 [⟨Rect.unit ![0, 0] S48x1.size inb_S48x1_S48x1_0_0,
              k0_pay6 (arg8.view.readAt (Elt F) (Rect.unit (s := S48x128) ![0, 0] S48x128.size inb_S48x128_S48x128_0_0).toLoadRect s'.f8)⟩])) -∗ K ⟨⟩))
      ⊢ wp frame (wpE (defs₀ (F := F)) 𝒱₀ (c : Thread nD τ) none) E (cc0_q4_head_top1 (F := F) i arg1 harg1 arg2 harg2 arg3 harg3 arg4 harg4 arg5 harg5 arg6 harg6 arg7 harg7 arg8 harg8 arg9 harg9 arg10 harg10) K := by
  rw [cc0_q4_head_top1_eq_skeleton]
  unfold cc0_q4_head_top1_skel
  rw [dif_neg h1, dif_pos h2]
  iintro ⟨H, H4, H5, H6, HK⟩
  sl_exec
  iapply (loop_run c i arg1 harg1 arg2 harg2 arg3 harg3 arg4 harg4 arg5 harg5 arg6 harg6 arg7 harg7 arg8 harg8 arg9 harg9 arg10 harg10 (BitVec.ofNat 32 (i 0).val) E X1 X2 X3 s)
  isplitl [H]; · iexact H
  rw [← hs']
  iintro ⟨H1, H2, H3, H7, H8, H9, H10⟩
  sl_exec
  sl_step
  iapply HK
  sl_close

end

end Cert.Kernel.Hand

end
-- ==== Proof.P.Frame.lean ====
/-
  The frame: the body obligation of the 25-point grid with the result windows forgotten, and the run.
-/
module

public import proofs.«01_k».proof.Proof.P.Body
public import Idealize.ShloMosaic.Lib.Pipeline.Quiescent

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [BitOps F]

/-- The resource algebra: the frame kit's. -/
local notation "𝕄" => MT nD τ sig Unit (Elt F) ℕ (UR sig nD τ) ℕ

variable (m : (ℓ : Loc nD τ sig) → Buf (Elt F) ℓ) (ρ : Dev nD → PrngReg)

/-- The result windows, whose contents the frame does not name. -/
abbrev forgets : Fin 6 → Bool := fun | 0 => false | 1 => false | 2 => false | 3 => true | 4 => true | 5 => true | ⟨_ + 6, h⟩ => absurd h (Nat.not_lt.2 (Nat.le_add_left _ _))

/-- The frame's proof data: each input's buffer stays at its block; the scratch at anything. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (fun _ => 0#32 : Vec F S48x1 .i32)
    | ⟨4, _⟩ => (fun _ => Scalar.ofBits .f32 0 : Vec F S48x1 .f32)
    | ⟨5, _⟩ => (fun _ => Scalar.ofBits .f32 0 : Vec F S48x1 .f32)
  Φ _ := Pipeline.ΦA spec0 c
  q _ := fullShare
  owed _ := 0

theorem fafter0_0 (c : Dev nD) (t : Fin cfg0.N) : (fdats m 0 c).after 0 t = iblk m c 0 t := by dsimp only [fdats]
theorem fafter0_1 (c : Dev nD) (t : Fin cfg0.N) : (fdats m 0 c).after 1 t = iblk m c 1 t := by dsimp only [fdats]
theorem fafter0_2 (c : Dev nD) (t : Fin cfg0.N) : (fdats m 0 c).after 2 t = iblk m c 2 t := by dsimp only [fdats]

theorem fbefore0_0 (c : Dev nD) (t : Fin cfg0.N) (d) : (fdats m 0 c).before 0 t d = iblk m c 0 t :=
  before0_0_of m (fdats m 0 c) rfl (fafter0_0 m c) t d
theorem fbefore0_1 (c : Dev nD) (t : Fin cfg0.N) (d) : (fdats m 0 c).before 1 t d = iblk m c 1 t :=
  before0_1_of m (fdats m 0 c) rfl (fafter0_1 m c) t d
theorem fbefore0_2 (c : Dev nD) (t : Fin cfg0.N) (d) : (fdats m 0 c).before 2 t d = iblk m c 2 t :=
  before0_2_of m (fdats m 0 c) rfl (fafter0_2 m c) t d

theorem cond1_iff : ∀ t : Fin cfg0.N, cond1 (BitVec.ofNat 32 (grid0.coords t 0).val) = 1#1 ↔ t.val = 0 := by decide
theorem cond2_iff : ∀ t : Fin cfg0.N, k0_cond2 (grid0.coords t) = 1#1 ↔ t.val = 24 := by decide

section

variable (c : Dev nD) (i : grid0.Coords)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x256 .i32) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)

/-- A memref whose contents nothing is said of. -/
abbrev any {S : Shape} {e : EltTy} (M : Memref sig .tc .vmem S e) : sProp 𝕄 := iprop(∃ f : Held (F := F) M, pt c M f)

/-- The body at any point, nothing said of what it leaves but in the operand blocks. -/
theorem body_any (h12 : ¬ (cond1 (BitVec.ofNat 32 (i 0).val) = 1#1 ∧ k0_cond2 i = 1#1))
    (E : Set ℕ) (X1 : Held (F := F) arg1) (X2 : Held (F := F) arg2) (X3 : Held (F := F) arg3) (K : PUnit → sProp 𝕄) :
    iprop((pt c arg1 X1 ∗ pt c arg2 X2 ∗ pt c arg3 X3 ∗ any c arg4 ∗ any c arg5 ∗ any c arg6 ∗ any c arg7 ∗ any c arg8 ∗ any c arg9 ∗ any c arg10)
      ∗ (iprop(pt c arg1 X1 ∗ pt c arg2 X2 ∗ pt c arg3 X3 ∗ any c arg4 ∗ any c arg5 ∗ any c arg6 ∗ any c arg7 ∗ any c arg8 ∗ any c arg9 ∗ any c arg10) -∗ K ⟨⟩))
      ⊢ wp frame (wpE (defs₀ (F := F)) 𝒱₀ (c : Thread nD τ) none) E
          (cc0_q4_head_top1 (F := F) i arg1 harg1 arg2 harg2 arg3 harg3 arg4 harg4 arg5 harg5 arg6 harg6 arg7 harg7 arg8 harg8 arg9 harg9 arg10 harg10) K := by
  iintro ⟨⟨H1, H2, H3, ⟨%f4, H4⟩, ⟨%f5, H5⟩, ⟨%f6, H6⟩, ⟨%f7, H7⟩, ⟨%f8, H8⟩, ⟨%f9, H9⟩, ⟨%f10, H10⟩⟩, HK⟩
  by_cases h2 : k0_cond2 i = 1#1
  · have h1 : ¬ cond1 (BitVec.ofNat 32 (i 0).val) = 1#1 := fun h => h12 ⟨h, h2⟩
    iapply (body_last c i arg1 harg1 arg2 harg2 arg3 harg3 arg4 harg4 arg5 harg5 arg6 harg6 arg7 harg7 arg8 harg8 arg9 harg9 arg10 harg10 h1 h2 E X1 X2 X3 ⟨f7, f8, f9, f10⟩ _ rfl f4 f5 f6 K)
    isplitl [H1 H2 H3 H7 H8 H9 H10]; · sl_close
    isplitl [H4]; · iexact H4
    isplitl [H5]; · iexact H5
    isplitl [H6]; · iexact H6
    iintro ⟨⟨H1, H2, H3, H7, H8, H9, H10⟩, H4, H5, H6⟩
    iapply HK
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10
  · by_cases h1 : cond1 (BitVec.ofNat 32 (i 0).val) = 1#1
    · iapply (body_first c i arg1 harg1 arg2 harg2 arg3 harg3 arg4 harg4 arg5 harg5 arg6 harg6 arg7 harg7 arg8 harg8 arg9 harg9 arg10 harg10 h1 h2 E X1 X2 X3 ⟨f7, f8, f9, f10⟩ K)
      isplitl [H1 H2 H3 H7 H8 H9 H10]; · sl_close
      iintro ⟨H1, H2, H3, H7, H8, H9, H10⟩
      iapply HK
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iexists _; iexact H10
    · iapply (body_mid c i arg1 harg1 arg2 harg2 arg3 harg3 arg4 harg4 arg5 harg5 arg6 harg6 arg7 harg7 arg8 harg8 arg9 harg9 arg10 harg10 h1 h2 E X1 X2 X3 ⟨f7, f8, f9, f10⟩ K)
      isplitl [H1 H2 H3 H7 H8 H9 H10]; · sl_close
      iintro ⟨H1, H2, H3, H7, H8, H9, H10⟩
      iapply HK
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iexists _; iexact H10

end

/-- The invariant between points: the four scratch buffers and the generator's register at anything. -/
theorem ΦA_eq (c : Dev nD) : (ΦA spec0 c : sProp 𝕄)
    = iprop((any c (Memref.whole cc0_scratch0) ∗ any c (Memref.whole cc0_scratch1) ∗ any c (Memref.whole cc0_scratch2) ∗ any c (Memref.whole cc0_scratch3))
        ∗ ∃ r, prngReg c r) := by
  unfold ΦA
  rw [scopedRest0_eq]
  unfold any pt
  simp only [Memref.view_whole, View.set_whole]

theorem fbody_obligation (c : Dev nD) : BodyObligation (fdats (F := F) m 0 c) (defs₀ (F := F)) 𝒱₀ () Set.univ forgets := fun t => by
  rw [bigSep_W0, bigSep_W0]
  sl_whnfR [defs₀, Defs.onTc]
  simp only [fbefore0_0, fbefore0_1, fbefore0_2]
  rw [show (fdats m 0 c).Φ t.succ = ΦA spec0 c from rfl, show (fdats m 0 c).Φ t.castSucc = ΦA spec0 c from rfl,
    show (fdats m 0 c).owesAt () t.succ = (fdats m 0 c).owesAt () t.castSucc from rfl, fafter0_0, fafter0_1, fafter0_2, ΦA_eq]
  unfold owns
  iintro ⟨⟨⟨H7, H8, H9, H10⟩, Hp⟩, Ho, ⟨%d1, %f1, %hf1, H1⟩, ⟨%d2, %f2, %hf2, H2⟩, ⟨%d3, %f3, %hf3, H3⟩, ⟨%d4, %f4, -, H4⟩, ⟨%d5, %f5, -, H5⟩, ⟨%d6, %f6, -, H6⟩⟩
  iapply (body_any c _ _ _ _ _ _ _ _ _ _ _ _ _ _ _ _ _ _ _ _ _
    (fun h => by have a := (cond1_iff t).1 h.1; have b := (cond2_iff t).1 h.2; omega) Set.univ f1 f2 f3 _)
  isplitl [H1 H2 H3 H4 H5 H6 H7 H8 H9 H10]
  · isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    isplitl [H8]; · iexact H8
    isplitl [H9]; · iexact H9
    iexact H10
  iintro ⟨H1, H2, H3, ⟨%g4, H4⟩, ⟨%g5, H5⟩, ⟨%g6, H6⟩, H7, H8, H9, H10⟩
  isplitl [H7 H8 H9 H10 Hp]
  · isplitr [Hp]
    · isplitl [H7]; · iexact H7
      isplitl [H8]; · iexact H8
      isplitl [H9]; · iexact H9
      iexact H10
    iexact Hp
  isplitl [Ho]; · iexact Ho
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

set_option backward.isDefEq.respectTransparency.types false in
/-- Every weakly fair execution ends, every input array at its contents at the region's entry and every counter at zero. -/
theorem run_frame : θ_run defs (onTc (τ := τ) (main (F := F))) (s₀ m ρ)
    (fun r => Pipeline.RDat.FramePost cfg0 (fun c => (fdats m 0 c).toRForget forgets) (V m) r ∧ r.2.sem = fun _ => 0) :=
  Pipeline.θ_run_frame_forget (Q' := _) cfgs (fdats m) (0 : Fin 1) launch0 defs₀ 𝒱₀ forgets m ρ main
    (hbody := fun c => (fbody_obligation m c).loose) (hshare := fun c => (fdats m 0 c).share_full fun _ => rfl)
    (howed := fun _ _ => rfl) (V := V m) (hmain := hmain m 𝒱₀) (hA := fun _ _ => rfl) (hΦ := fun _ _ => rfl)

/-- An input window's clause of the frame's post. -/
theorem post_in {r} (h : Pipeline.RDat.FramePost cfg0 (fun c => (fdats m 0 c).toRForget forgets) (V m) r) (c : Dev nD) (w : Fin cfg0.W)
    (hin : (cfg0.win w).isOut = false) :
    r.2.mem ((cfg0.spec w).arr.view.loc (c.tc : Thread nD τ)) = V m c (Pipeline.arrRef spec0 w) :=
  h.arr_in c w hin

/-- The frame: the run ends with the argument arrays as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨((h.1 c).2 main_arg0 (Pipeline.mem_restRefs_of main_arg0 (by decide) (by decide))).trans (V_main_arg0 m c),
      (post_in m h.1 c 1 rfl).trans (V_main_arg1 m c), (post_in m h.1 c 2 rfl).trans (V_main_arg2 m c)⟩, h.2⟩) (run_frame m ρ)

end Cert.Kernel.Hand

end
-- ==== Proof.PI.Trip.lean ====
/-
  One trip of the loop over the five 256-row tiles of a vocabulary block (`k0_t1_loop`), run once at a symbolic trip.
  What the trip leaves in the scratch buffers is found by the run.
-/
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

abbrev 𝒱₀ : Variants := Variants.none

/-- The contents a memref's buffer may hold. -/
abbrev Held {S : Shape} {e : EltTy} (M : Memref sig .tc .vmem S e) : Type := BufTy.Contents (Elt F) M.view.ty

/-- A memref's buffer held whole on core `c`. -/
abbrev pt (c : Dev nD) {S : Shape} {e : EltTy} (M : Memref sig .tc .vmem S e) (f : Held (F := F) M) : sProp 𝕄 :=
  (M.view.loc (c : Thread nD τ)) ↦[M.view.set]{fullShare} f

section

variable (c : Dev nD) (i : grid0.Coords)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x2x256 .bf16) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)
  (arg0 : BitVec 32)

/-- What one trip touches: the three operand blocks, read, and the four scratch buffers. -/
abbrev Trip (X1 : Held (F := F) arg1) (X2 : Held (F := F) arg2) (X3 : Held (F := F) arg3)
    (f7 : Held (F := F) arg7) (f8 : Held (F := F) arg8) (f9 : Held (F := F) arg9) (f10 : Held (F := F) arg10) : sProp 𝕄 :=
  iprop(pt c arg1 X1 ∗ pt c arg2 X2 ∗ pt c arg3 X3 ∗ pt c arg7 f7 ∗ pt c arg8 f8 ∗ pt c arg9 f9 ∗ pt c arg10 f10)

/-- One trip at a symbolic trip number: it ends with each scratch buffer at a value the run finds, a function of what the
    scratch held before. -/
@[irreducible] def trip (k : Fin k0_t1_loop.trips) (X1 : Held (F := F) arg1) (X2 : Held (F := F) arg2) (X3 : Held (F := F) arg3)
    (f7 : Held (F := F) arg7) (f8 : Held (F := F) arg8) (f9 : Held (F := F) arg9) (f10 : Held (F := F) arg10) :
    Σ' (R7 : Held (F := F) arg7) (R8 : Held (F := F) arg8) (R9 : Held (F := F) arg9), { R10 : Held (F := F) arg10 //
      ∀ (E : Set ℕ), Trip c arg1 arg2 arg3 arg7 arg8 arg9 arg10 X1 X2 X3 f7 f8 f9 f10
        ⊢ wp frame (wpE (defs₀ (F := F)) 𝒱₀ (c : Thread nD τ) none) E
            (k0_t1_body (F := F) i arg1 harg1 arg2 harg2 arg3 harg3 arg4 harg4 arg5 harg5 arg6 harg6 arg7 harg7 arg8 harg8 arg9 harg9 arg10 harg10 arg0 k ())
            (fun _ => Trip c arg1 arg2 arg3 arg7 arg8 arg9 arg10 X1 X2 X3 R7 R8 R9 R10) } := by
  have hk : k.val < 5 := Nat.lt_of_lt_of_le k.isLt k0_t1_abs.2.1
  refine ⟨?_, ?_, ?_, ?_, fun E => ?run⟩
  case run =>
    unfold k0_t1_body
    iintro ⟨H1, H2, H3, H7, H8, H9, H10⟩
    sl_exec
    sl_step
    sl_close

end

end Cert.KernelIdeal.Hand

end
-- ==== Proof.Math.Nibble.lean ====
/-
  One byte holds two 4-bit codes. What the kernel reads of it — flip the top bit of each, shift left, shift right keeping the
  sign — is the code less eight; the reference takes the code and subtracts eight.
-/
module

public import Idealize.ShloMosaic.Lib.Pointwise

@[expose] public section

namespace Cert.Math

open Idealize.ShloMosaic

/-- The low code, less eight, as the kernel's shifts give it. -/
theorem low_code (w : BitVec 8) : (IntOp.shrsi ArithUnit.vector
    (IntOp.shli ArithUnit.vector (BitVec.setWidth 32 (IntOp.xori w 136#8)) 28#32) 28#32).toInt = ((w.toNat % 16 : ℕ) : ℤ) - 8 := by
  revert w; decide +kernel

/-- The high code, less eight. -/
theorem high_code (w : BitVec 8) : (IntOp.shrsi ArithUnit.vector
    (IntOp.shli ArithUnit.vector (BitVec.setWidth 32 (IntOp.xori w 136#8)) 24#32) 28#32).toInt = ((w.toNat / 16 : ℕ) : ℤ) - 8 := by
  revert w; decide +kernel

/-- The codes as the reference masks and shifts them. -/
theorem low_mask (w : BitVec 8) : (IntOp.andi (BitVec.setWidth 32 w) 15#32).toInt = ((w.toNat % 16 : ℕ) : ℤ) := by
  revert w; decide +kernel

theorem high_shift (w : BitVec 8) : (IntOp.shrsi ArithUnit.host (BitVec.setWidth 32 w) 4#32).toInt = ((w.toNat / 16 : ℕ) : ℤ) := by
  revert w; decide +kernel

noncomputable section

/-- The value of one code of a byte: the low code at parity 0, the high at parity 1, less eight. -/
def codeOf (w : BitVec 8) (q : ℕ) : EReal := (((((if q = 0 then w.toNat % 16 else w.toNat / 16 : ℕ) : ℤ) - 8 : ℤ) : ℝ) : EReal)

/-- A finite row as a sequence, `d` past its end. -/
def rowOf {α : Type} {M : ℕ} (d : α) (f : Fin M → α) (k : ℕ) : α := if h : k < M then f ⟨k, h⟩ else d

theorem rowOf_of_lt {α : Type} {M : ℕ} (d : α) (f : Fin M → α) (k : ℕ) (h : k < M) : rowOf d f k = f ⟨k, h⟩ := dif_pos h

/-- One product of a row of activations with a row of the dequantised weights: two codes a byte, 32 columns a scale. -/
def term (x : ℕ → EReal) (w : ℕ → BitVec 8) (s : ℕ → EReal) (k : ℕ) : EReal := x k * (codeOf (w (k / 2)) (k % 2) * s (k / 32))

/-- One result element of the product. -/
def logit (x : ℕ → EReal) (w : ℕ → BitVec 8) (s : ℕ → EReal) : EReal := ∑ k ∈ Finset.range 3584, term x w s k

end

end Cert.Math
-- ==== Proof.PI.Payload.lean ====
/-
  What the payloads of one contraction tile are at an index, over the extended reals.
-/
module

public import proofs.«01_k».proof.Proof.Gen.KernelIdeal.Skeleton
public import proofs.«01_k».proof.Proof.Math.Nibble
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Math (codeOf)

/-- The unpacked codes: row `p` of the contraction tile is the code of parity `p % 2` of byte `p / 2`. -/
theorem pay10_at (w : Vec Ideal S256x128 .i8) (p r : Fin 256) :
    (FloatOps.sitofp (F := Ideal) .bf16 (k0_pay10 (F := Ideal) w (ix2 p r)) : EReal)
      = codeOf (w (ix2 r ⟨p.val / 2, by have := p.isLt; omega⟩)) (p.val % 2) := by
  pointwise [k0_pay10]
  rw [show ∀ b : BitVec 32, (FloatOps.sitofp (F := Ideal) .bf16 b : EReal) = (((b.toInt : ℤ) : ℝ) : EReal) from fun _ => rfl]
  unfold codeOf
  by_cases hp : p.val % 2 = 0
  · rw [dif_pos (by omega), Cert.Math.low_code, if_pos hp]
  · rw [dif_neg (by omega), Cert.Math.high_code, if_neg hp]

section

variable (v102 : IVec S256x256 32) (raw : Vec Ideal S1x1x1x2x256 .bf16) (sc : Fin 256 → EReal)
  (h : ∀ (p : Fin 2) (r : Fin 256), raw (ix5 0 0 0 p r) = sc r) (j : Fin 32) (r : Fin 256)

include h

theorem pay14_at : k0_pay14 (F := Ideal) v102 (k0_pay12 raw) (k0_pay13 raw) (ix2 j r)
    = (FloatOps.sitofp (F := Ideal) .bf16 (v102 (ix2 ⟨32 + j.val, by have := j.isLt; omega⟩ r)) : EReal) * sc r := by
  pointwise [k0_pay12, k0_pay13, k0_pay14]
  simp only [dite_eq_ite, ite_self, h]

theorem pay15_at : k0_pay15 (F := Ideal) v102 raw (ix2 j r)
    = (FloatOps.sitofp (F := Ideal) .bf16 (v102 (ix2 ⟨64 + j.val, by have := j.isLt; omega⟩ r)) : EReal) * sc r := by
  pointwise [k0_pay15]
  simp only [dite_eq_ite, ite_self, h]

theorem pay16_at : k0_pay16 (F := Ideal) v102 raw (ix2 j r)
    = (FloatOps.sitofp (F := Ideal) .bf16 (v102 (ix2 ⟨96 + j.val, by have := j.isLt; omega⟩ r)) : EReal) * sc r := by
  pointwise [k0_pay16]
  simp only [dite_eq_ite, ite_self, h]

theorem pay17_at : k0_pay17 (F := Ideal) v102 raw (ix2 j r)
    = (FloatOps.sitofp (F := Ideal) .bf16 (v102 (ix2 ⟨128 + j.val, by have := j.isLt; omega⟩ r)) : EReal) * sc r := by
  pointwise [k0_pay17]
  simp only [dite_eq_ite, ite_self, h]

theorem pay18_at : k0_pay18 (F := Ideal) v102 raw (ix2 j r)
    = (FloatOps.sitofp (F := Ideal) .bf16 (v102 (ix2 ⟨160 + j.val, by have := j.isLt; omega⟩ r)) : EReal) * sc r := by
  pointwise [k0_pay18]
  simp only [dite_eq_ite, ite_self, h]

theorem pay19_at : k0_pay19 (F := Ideal) v102 raw (ix2 j r)
    = (FloatOps.sitofp (F := Ideal) .bf16 (v102 (ix2 ⟨192 + j.val, by have := j.isLt; omega⟩ r)) : EReal) * sc r := by
  pointwise [k0_pay19]
  simp only [dite_eq_ite, ite_self, h]

theorem pay11_at (w : Vec Ideal S256x128 .i8) : k0_pay11 (F := Ideal) w raw (ix2 j r)
    = (FloatOps.sitofp (F := Ideal) .bf16 (k0_pay10 (F := Ideal) w (ix2 ⟨j.val, by have := j.isLt; omega⟩ r)) : EReal) * sc r := by
  pointwise [k0_pay11]
  simp only [dite_eq_ite, ite_self, h]

end

/-- One contraction tile from its eight groups: each group's weights are its rows of `code` by its scales. -/
theorem pay24_groups (acc : FVec Ideal S48x256 .f32) (v102 : Vec Ideal S256x256 .i32) (a0 a1 a2 a3 a4 a5 a6 : FVec Ideal S32x256 .bf16)
    (raw7 : Vec Ideal S1x1x1x2x256 .bf16) (code : Fin 256 → EReal) (sc : Fin 8 → EReal) (x : Vec Ideal S48x256 .bf16) (b : Fin 48) (r : Fin 256)
    (h0 : ∀ j : Fin 32, (a0 (ix2 j r) : EReal) = code ⟨j.val, by have := j.isLt; omega⟩ * sc 0)
    (h1 : ∀ j : Fin 32, (a1 (ix2 j r) : EReal) = code ⟨32 + j.val, by have := j.isLt; omega⟩ * sc 1)
    (h2 : ∀ j : Fin 32, (a2 (ix2 j r) : EReal) = code ⟨64 + j.val, by have := j.isLt; omega⟩ * sc 2)
    (h3 : ∀ j : Fin 32, (a3 (ix2 j r) : EReal) = code ⟨96 + j.val, by have := j.isLt; omega⟩ * sc 3)
    (h4 : ∀ j : Fin 32, (a4 (ix2 j r) : EReal) = code ⟨128 + j.val, by have := j.isLt; omega⟩ * sc 4)
    (h5 : ∀ j : Fin 32, (a5 (ix2 j r) : EReal) = code ⟨160 + j.val, by have := j.isLt; omega⟩ * sc 5)
    (h6 : ∀ j : Fin 32, (a6 (ix2 j r) : EReal) = code ⟨192 + j.val, by have := j.isLt; omega⟩ * sc 6)
    (h7 : ∀ p : Fin 2, (raw7 (ix5 0 0 0 p r) : EReal) = sc 7)
    (hc : ∀ k, (FloatOps.sitofp (F := Ideal) .bf16 (v102 (ix2 k r)) : EReal) = code k) :
    k0_pay24 (F := Ideal) acc v102 a0 a1 a2 a3 a4 a5 a6 raw7 x (ix2 b r)
      = (acc (ix2 b r) : EReal) + ∑ k : Fin 256, (x (ix2 b k) : EReal) * (code k * sc ⟨k.val / 32, by have := k.isLt; omega⟩) := by
  pointwise [k0_pay24]
  simp only [dite_eq_ite, ite_self, h0, h1, h2, h3, h4, h5, h6, h7, hc]
  refine congrArg₂ (· + ·) rfl (Finset.sum_congr rfl fun k _ => congrArg₂ (· * ·) rfl ?_)
  have key : ∀ (g : Fin 8) (q : Fin 256) (hj : q.val = k.val) (hg : k.val / 32 = g.val),
      code q * sc g = code k * sc ⟨k.val / 32, by have := k.isLt; omega⟩ := by
    intro g q hj hg
    rw [show q = k from Fin.ext hj, show (⟨k.val / 32, by have := k.isLt; omega⟩ : Fin 8) = g from Fin.ext hg]
  have hk := k.isLt
  split_ifs <;> first
    | exact key 0 _ (by dsimp only <;> omega) (by show k.val / 32 = 0; omega)
    | exact key 1 _ (by dsimp only <;> omega) (by show k.val / 32 = 1; omega)
    | exact key 2 _ (by dsimp only <;> omega) (by show k.val / 32 = 2; omega)
    | exact key 3 _ (by dsimp only <;> omega) (by show k.val / 32 = 3; omega)
    | exact key 4 _ (by dsimp only <;> omega) (by show k.val / 32 = 4; omega)
    | exact key 5 _ (by dsimp only <;> omega) (by show k.val / 32 = 5; omega)
    | exact key 6 _ (by dsimp only <;> omega) (by show k.val / 32 = 6; omega)
    | exact key 7 _ (by dsimp only <;> omega) (by show k.val / 32 = 7; omega)

/-- One contraction tile: 256 products a result element, the weights by their eight groups of 32. -/
theorem pay24_at (acc : FVec Ideal S48x256 .f32) (w : Vec Ideal S256x128 .i8) (raw0 raw1 raw2 raw3 raw4 raw5 raw6 raw7 : Vec Ideal S1x1x1x2x256 .bf16)
    (sc : Fin 8 → Fin 256 → EReal) (h0 : ∀ (p : Fin 2) (r : Fin 256), raw0 (ix5 0 0 0 p r) = sc 0 r)
    (h1 : ∀ (p : Fin 2) (r : Fin 256), raw1 (ix5 0 0 0 p r) = sc 1 r) (h2 : ∀ (p : Fin 2) (r : Fin 256), raw2 (ix5 0 0 0 p r) = sc 2 r)
    (h3 : ∀ (p : Fin 2) (r : Fin 256), raw3 (ix5 0 0 0 p r) = sc 3 r) (h4 : ∀ (p : Fin 2) (r : Fin 256), raw4 (ix5 0 0 0 p r) = sc 4 r)
    (h5 : ∀ (p : Fin 2) (r : Fin 256), raw5 (ix5 0 0 0 p r) = sc 5 r) (h6 : ∀ (p : Fin 2) (r : Fin 256), raw6 (ix5 0 0 0 p r) = sc 6 r)
    (h7 : ∀ (p : Fin 2) (r : Fin 256), raw7 (ix5 0 0 0 p r) = sc 7 r)
    (x : Vec Ideal S48x256 .bf16) (b : Fin 48) (r : Fin 256) :
    k0_pay24 (F := Ideal) acc (k0_pay10 w) (k0_pay11 w raw0) (k0_pay14 (k0_pay10 w) (k0_pay12 raw1) (k0_pay13 raw1))
      (k0_pay15 (k0_pay10 w) raw2) (k0_pay16 (k0_pay10 w) raw3) (k0_pay17 (k0_pay10 w) raw4) (k0_pay18 (k0_pay10 w) raw5)
      (k0_pay19 (k0_pay10 w) raw6) raw7 x (ix2 b r)
      = (acc (ix2 b r) : EReal) + ∑ k : Fin 256, (x (ix2 b k) : EReal)
          * (codeOf (w (ix2 r ⟨k.val / 2, by have := k.isLt; omega⟩)) (k.val % 2) * sc ⟨k.val / 32, by have := k.isLt; omega⟩ r) := by
  refine pay24_groups acc (k0_pay10 w) _ _ _ _ _ _ _ raw7 (fun k => codeOf (w (ix2 r ⟨k.val / 2, by have := k.isLt; omega⟩)) (k.val % 2))
    (fun g => sc g r) x b r ?_ ?_ ?_ ?_ ?_ ?_ ?_ (fun p => h7 p r) (fun k => pay10_at w k r)
  · intro j; rw [pay11_at raw0 (sc 0) h0, pay10_at]
  · intro j; rw [pay14_at _ raw1 (sc 1) h1, pay10_at]
  · intro j; rw [pay15_at _ raw2 (sc 2) h2, pay10_at]
  · intro j; rw [pay16_at _ raw3 (sc 3) h3, pay10_at]
  · intro j; rw [pay17_at _ raw4 (sc 4) h4, pay10_at]
  · intro j; rw [pay18_at _ raw5 (sc 5) h5, pay10_at]
  · intro j; rw [pay19_at _ raw6 (sc 6) h6, pay10_at]

/-! ## The scales' two halves -/

/-- The even scale columns, each row doubled. -/
theorem pay21_at (s : Vec Ideal S256x112 .bf16) (q : Fin 56) (p : Fin 2) (r : Fin 256) :
    k0_pay21 (F := Ideal) s (ix5 0 0 q p r) = s (ix2 r ⟨2 * q.val, by have := q.isLt; omega⟩) := by
  pointwise [k0_pay21]
  rw [ite_self]
  pointwise [k0_pay20]

/-- The odd scale columns, each row doubled. -/
theorem pay22_at (s : Vec Ideal S256x112 .bf16) (q : Fin 56) (p : Fin 2) (r : Fin 256) :
    k0_pay22 (F := Ideal) s (ix5 0 0 q p r) = s (ix2 r ⟨2 * q.val + 1, by have := q.isLt; omega⟩) := by
  pointwise [k0_pay22]
  rw [ite_self]
  pointwise [k0_pay20]

end Cert.KernelIdeal.Hand
-- ==== Proof.Math.Top2.lean ====
/-
  The best two of a sequence of extended reals and where the first is reached: stated by its properties, kept by one
  running step, unique, and combined over 128 lanes.
-/
module

public import Idealize.ShloMosaic.Lib.Pointwise

@[expose] public section

namespace Cert.Math

/-- Of `v 0, …, v (n-1)`: the greatest value `a`, the first place `i` that has it, and the greatest value `b` of the other
    places (minus infinity if there are none; `a = ⊥`, `i = 0` of no values). -/
structure Top2 (v : ℕ → EReal) (n : ℕ) (a b : EReal) (i : ℕ) : Prop where
  le₁ : ∀ j < n, v j ≤ a
  none : n = 0 → a = ⊥ ∧ i = 0
  lt : 0 < n → i < n
  att₁ : 0 < n → v i = a
  first : ∀ j < i, v j < a
  le₂ : ∀ j < n, j ≠ i → v j ≤ b
  att₂ : b = ⊥ ∨ ∃ j < n, j ≠ i ∧ v j = b

theorem Top2.zero (v : ℕ → EReal) : Top2 v 0 ⊥ ⊥ 0 :=
  ⟨fun _ h => absurd h (Nat.not_lt_zero _), fun _ => ⟨rfl, rfl⟩, fun h => absurd h (lt_irrefl _), fun h => absurd h (lt_irrefl _),
    fun _ h => absurd h (Nat.not_lt_zero _), fun _ h => absurd h (Nat.not_lt_zero _), Or.inl rfl⟩

/-- One more value: the running step. -/
theorem Top2.step {v : ℕ → EReal} {n : ℕ} {a b : EReal} {i : ℕ} (h : Top2 v n a b i) :
    Top2 v (n + 1) (max a (v n)) (max b (min a (v n))) (if a < v n then n else i) := by
  rcases Nat.eq_zero_or_pos n with rfl | hn
  · obtain ⟨rfl, rfl⟩ := h.none rfl
    have hb : b = ⊥ := by
      rcases h.att₂ with h | ⟨j, hj, -⟩
      · exact h
      · exact absurd hj (Nat.not_lt_zero _)
    subst hb
    have e : (if (⊥ : EReal) < v 0 then 0 else 0) = 0 := ite_self _
    rw [e]
    simp only [max_eq_right bot_le, min_eq_left bot_le]
    refine ⟨?_, ?_, ?_, ?_, ?_, ?_, Or.inl rfl⟩
    · intro j hj; obtain rfl : j = 0 := by omega
      exact le_rfl
    · intro h; omega
    · intro; omega
    · intro; rfl
    · intro j hj; omega
    · intro j hj hne; omega
  · have hi := h.lt hn
    by_cases hlt : a < v n
    · rw [if_pos hlt, max_eq_right hlt.le, min_eq_left hlt.le]
      refine ⟨?_, ?_, ?_, ?_, ?_, ?_, ?_⟩
      · intro j hj
        rcases Nat.lt_succ_iff_lt_or_eq.1 hj with hj | rfl
        · exact (h.le₁ j hj).trans hlt.le
        · exact le_rfl
      · intro; omega
      · intro; omega
      · intro; rfl
      · intro j hj; exact (h.le₁ j hj).trans_lt hlt
      · intro j hj hne
        exact (h.le₁ j (by omega)).trans (le_max_right _ _)
      · rcases le_total b a with hba | hab
        · rw [max_eq_right hba]
          exact Or.inr ⟨i, by omega, by omega, h.att₁ hn⟩
        · rw [max_eq_left hab]
          rcases h.att₂ with h | ⟨j, hj, -, e⟩
          · exact Or.inl h
          · exact Or.inr ⟨j, by omega, by omega, e⟩
    · have hle := not_lt.1 hlt
      rw [if_neg hlt, max_eq_left hle, min_eq_right hle]
      refine ⟨?_, ?_, ?_, ?_, h.first, ?_, ?_⟩
      · intro j hj
        rcases Nat.lt_succ_iff_lt_or_eq.1 hj with hj | rfl
        · exact h.le₁ j hj
        · exact hle
      · intro; omega
      · intro; omega
      · intro; exact h.att₁ hn
      · intro j hj hne
        rcases Nat.lt_succ_iff_lt_or_eq.1 hj with hj | rfl
        · exact (h.le₂ j hj hne).trans (le_max_left _ _)
        · exact le_max_right _ _
      · rcases le_total b (v n) with hba | hab
        · rw [max_eq_right hba]
          exact Or.inr ⟨n, by omega, by omega, rfl⟩
        · rw [max_eq_left hab]
          rcases h.att₂ with h | ⟨j, hj, hne, e⟩
          · exact Or.inl h
          · exact Or.inr ⟨j, by omega, hne, e⟩

/-- The three are determined. -/
theorem Top2.unique {v : ℕ → EReal} {n : ℕ} {a b a' b' : EReal} {i i' : ℕ} (hn : 0 < n) (h : Top2 v n a b i) (h' : Top2 v n a' b' i') :
    a = a' ∧ b = b' ∧ i = i' := by
  have ea : a = a' := le_antisymm ((h.att₁ hn) ▸ h'.le₁ i (h.lt hn)) ((h'.att₁ hn) ▸ h.le₁ i' (h'.lt hn))
  subst ea
  have ei : i = i' := by
    rcases Nat.lt_trichotomy i i' with hl | hl | hl
    · exact absurd (h.att₁ hn) (h'.first i hl).ne
    · exact hl
    · exact absurd (h'.att₁ hn) (h.first i' hl).ne
  subst ei
  have key : ∀ {x y : EReal}, Top2 v n a x i → Top2 v n a y i → x ≤ y := fun {x y} hx hy => by
    rcases hx.att₂ with e | ⟨j, hj, hne, e⟩
    · exact e ▸ bot_le
    · exact e ▸ hy.le₂ j hj hne
  exact ⟨rfl, le_antisymm (key h h') (key h' h), rfl⟩

/-- The maximum of finitely many values as a fold from minus infinity. -/
theorem le_fold {k : ℕ} (f : Fin k → EReal) (x : Fin k) : f x ≤ Finset.univ.fold max ⊥ f :=
  (Finset.le_fold_max _).2 (Or.inr ⟨x, Finset.mem_univ _, le_rfl⟩)

theorem fold_att {k : ℕ} (f : Fin k → EReal) : Finset.univ.fold max ⊥ f = ⊥ ∨ ∃ x, f x = Finset.univ.fold max ⊥ f := by
  rcases (Finset.le_fold_max (s := Finset.univ) (f := f) (b := ⊥) (Finset.univ.fold max ⊥ f)).1 le_rfl with h | ⟨x, -, h⟩
  · exact Or.inl (le_bot_iff.1 h)
  · exact Or.inr ⟨x, le_antisymm (le_fold f x) h⟩

/-- The lanes' best two give the best two of all: value `v (j * 128 + l)` is the `j`-th of lane `l`. -/
theorem Top2.lanes {v : ℕ → EReal} {N : ℕ} (hN : 0 < N) {a b : Fin 128 → EReal} {i : Fin 128 → ℕ}
    (h : ∀ l : Fin 128, Top2 (fun j => v (j * 128 + l)) N (a l) (b l) (i l)) (p : ℕ)
    (hp : ∃ l, a l = Finset.univ.fold max ⊥ a ∧ p = i l * 128 + l)
    (hmin : ∀ l, a l = Finset.univ.fold max ⊥ a → p ≤ i l * 128 + l) :
    Top2 v (N * 128) (Finset.univ.fold max ⊥ a) (Finset.univ.fold max ⊥ fun l => if i l * 128 + (l : ℕ) = p then b l else a l) p := by
  obtain ⟨l₀, e₀, rfl⟩ := hp
  have hi := (h l₀).lt hN
  have hsplit : ∀ j : ℕ, ∃ l : Fin 128, ∃ q, j = q * 128 + l := fun j => ⟨⟨j % 128, Nat.mod_lt _ (by decide)⟩, j / 128, by
    show j = j / 128 * 128 + j % 128
    omega⟩
  refine ⟨?_, ?_, ?_, ?_, ?_, ?_, ?_⟩
  · intro j hj
    obtain ⟨l, q, rfl⟩ := hsplit j
    exact ((h l).le₁ q (by omega)).trans (le_fold a l)
  · intro; omega
  · intro; have := l₀.isLt; omega
  · intro; exact ((h l₀).att₁ hN).trans e₀
  · intro j hj
    obtain ⟨l, q, rfl⟩ := hsplit j
    rcases (le_fold a l).lt_or_eq with hl | hl
    · exact ((h l).le₁ q (by have := l.isLt; have := l₀.isLt; omega)).trans_lt hl
    · have := hmin l hl
      rw [← hl]
      exact (h l).first q (by omega)
  · intro j hj hne
    obtain ⟨l, q, rfl⟩ := hsplit j
    refine le_trans ?_ (le_fold _ l)
    split_ifs with hl
    · exact (h l).le₂ q (by omega) (fun e => hne (by rw [e, hl]))
    · exact (h l).le₁ q (by omega)
  · rcases fold_att (fun l : Fin 128 => if i l * 128 + (l : ℕ) = i l₀ * 128 + l₀ then b l else a l) with e | ⟨l, e⟩
    · exact Or.inl e
    · rw [← e]
      by_cases hl : i l * 128 + (l : ℕ) = i l₀ * 128 + l₀
      · rw [if_pos hl]
        rcases (h l).att₂ with e | ⟨j, hj, hne, e⟩
        · exact Or.inl e
        · exact Or.inr ⟨j * 128 + l, by have := l.isLt; omega, by omega, e⟩
      · rw [if_neg hl]
        exact Or.inr ⟨i l * 128 + l, by have := l.isLt; have := (h l).lt hN; omega, hl, (h l).att₁ hN⟩

theorem exists_top2 (v : ℕ → EReal) : ∀ n, ∃ t : EReal × EReal × ℕ, Top2 v n t.1 t.2.1 t.2.2
  | 0 => ⟨(⊥, ⊥, 0), Top2.zero v⟩
  | n + 1 => (exists_top2 v n).elim fun t h => ⟨(max t.1 (v n), max t.2.1 (min t.1 (v n)), if t.1 < v n then n else t.2.2), h.step⟩

/-- The greatest, the second and the first place of the greatest, of the first `n` values. -/
noncomputable def pass (v : ℕ → EReal) (n : ℕ) : EReal × EReal × ℕ := Classical.choose (exists_top2 v n)

theorem pass_top2 (v : ℕ → EReal) (n : ℕ) : Top2 v n (pass v n).1 (pass v n).2.1 (pass v n).2.2 := Classical.choose_spec (exists_top2 v n)

/-- Whatever has the three properties is the pass's result. -/
theorem Top2.eq_pass {v : ℕ → EReal} {n : ℕ} {a b : EReal} {i : ℕ} (hn : 0 < n) (h : Top2 v n a b i) :
    a = (pass v n).1 ∧ b = (pass v n).2.1 ∧ i = (pass v n).2.2 := h.unique hn (pass_top2 v n)

end Cert.Math
-- ==== Proof.PI.Lanes.lean ====
/-
  What the payloads after the product compute: the running top two of each lane, and the final reduction over the lanes.
-/
module

public import proofs.«01_k».proof.Proof.PI.Payload
public import proofs.«01_k».proof.Proof.Math.Top2

@[expose] public section

set_option maxRecDepth 16384

namespace Cert.KernelIdeal.Hand

open Cert.KernelIdeal Cert.KernelIdeal.Gen
open Idealize.ShloMosaic Idealize.ShloMosaic.TcCoe
open Cert.Math (Top2)

/-- The word of minus infinity. -/
theorem ofBits_bot : Ideal.ofBits .f32 0xFF800000#32 = ⊥ := by
  simp [Ideal.ofBits, Ideal.ieee]

theorem pay1_at (b : Fin 48) (l : Fin 128) : (k0_pay1 (F := Ideal) (ix2 b l) : EReal) = ⊥ := by
  pointwise [k0_pay1]
  exact ofBits_bot
theorem pay2_at (b : Fin 48) (l : Fin 128) : (k0_pay2 (F := Ideal) (ix2 b l) : EReal) = ⊥ := by
  pointwise [k0_pay2]
  exact ofBits_bot
theorem pay3_at (b : Fin 48) (l : Fin 128) : k0_pay3 (ix2 b l) = 0#32 := by
  pointwise [k0_pay3]
theorem pay23_at (b : Fin 48) (l : Fin 256) : (k0_pay23 (F := Ideal) (ix2 b l) : EReal) = 0 := by
  pointwise [k0_pay23]
theorem pay5_at (v60 v59 : FVec Ideal S48x128 .f32) (b : Fin 48) (l : Fin 128) :
    (k0_pay5 (F := Ideal) v59 v60 (ix2 b l) : EReal) = max (v60 (ix2 b l) : EReal) (v59 (ix2 b l)) := by
  pointwise [k0_pay5]
theorem pay28_at (v60 v59 : FVec Ideal S48x128 .f32) (b : Fin 48) (l : Fin 128) :
    (k0_pay28 (F := Ideal) v59 v60 (ix2 b l) : EReal) = max (v60 (ix2 b l) : EReal) (v59 (ix2 b l)) := by
  pointwise [k0_pay28]
theorem pay4_at (v72 v60 v59 : FVec Ideal S48x128 .f32) (b : Fin 48) (l : Fin 128) :
    (k0_pay4 (F := Ideal) v59 v60 v72 (ix2 b l) : EReal) = max (v72 (ix2 b l) : EReal) (min (v60 (ix2 b l) : EReal) (v59 (ix2 b l))) := by
  pointwise [k0_pay4]
theorem pay27_at (v72 v60 v59 : FVec Ideal S48x128 .f32) (b : Fin 48) (l : Fin 128) :
    (k0_pay27 (F := Ideal) v59 v60 v72 (ix2 b l) : EReal) = max (v72 (ix2 b l) : EReal) (min (v60 (ix2 b l) : EReal) (v59 (ix2 b l))) := by
  pointwise [k0_pay27]
theorem pay25_at (a : FVec Ideal S48x256 .f32) (b : Fin 48) (l : Fin 128) :
    (k0_pay25 (F := Ideal) a (ix2 b l) : EReal) = a (ix2 b ⟨l.val, by have := l.isLt; omega⟩) := by
  pointwise [k0_pay25]
theorem pay29_at (a : FVec Ideal S48x256 .f32) (b : Fin 48) (l : Fin 128) :
    (k0_pay29 (F := Ideal) a (ix2 b l) : EReal) = a (ix2 b ⟨128 + l.val, by have := l.isLt; omega⟩) := by
  pointwise [k0_pay29]
theorem pay26_at (arg0 v8 : BitVec 32) (v36 v37 : FVec Ideal S48x128 .f32) (v43 : IVec S48x128 32) (b : Fin 48) (l : Fin 128) :
    k0_pay26 (F := Ideal) arg0 v8 v36 v37 v43 (ix2 b l) = if (v37 (ix2 b l) : EReal) < v36 (ix2 b l) then (arg0 * 5#32 + v8) * 2#32 + 0#32 else v43 (ix2 b l) := by
  pointwise [k0_pay26]
  rfl
theorem pay30_at (arg0 v8 : BitVec 32) (v35 : FVec Ideal S48x256 .f32) (v60 : FVec Ideal S48x128 .f32) (v66 : IVec S48x128 32) (b : Fin 48) (l : Fin 128) :
    k0_pay30 (F := Ideal) arg0 v8 v35 v60 v66 (ix2 b l) = if (v60 (ix2 b l) : EReal) < v35 (ix2 b ⟨128 + l.val, by have := l.isLt; omega⟩)
      then (arg0 * 5#32 + v8) * 2#32 + 1#32 else v66 (ix2 b l) := by
  pointwise [k0_pay30]
  rw [pay29_at]
  rfl
theorem pay6_at (v7 : FVec Ideal S48x128 .f32) (b : Fin 48) :
    (k0_pay6 (F := Ideal) v7 (ix2 b 0) : EReal) = Finset.univ.fold max ⊥ (fun l : Fin 128 => (v7 (ix2 b l) : EReal)) := by
  pointwise [k0_pay6]
  rw [ofBits_bot]
theorem pay7_at (v10 : IVec S48x128 32) (b : Fin 48) (l : Fin 128) :
    k0_pay7 (F := Ideal) v10 (ix2 b l) = v10 (ix2 b l) * 128#32 + BitVec.ofNat 32 l.val := by
  pointwise [k0_pay7]
  rfl

/-- The signed minimum of two words is the minimum of the integers they stand for. -/
theorem minsi_toInt (a b : BitVec 32) : (IntOp.minsi a b).toInt = min a.toInt b.toInt := by
  unfold IntOp.minsi
  simp only [BitVec.slt_iff_toInt_lt]
  split_ifs with h <;> omega

/-- The least of the words of the lanes that qualify, one of them at least. -/
theorem fold_min_word (P : Fin 128 → Prop) [DecidablePred P] (n : Fin 128 → ℕ) (hn : ∀ l, n l < 2147483647) (hP : ∃ l, P l) :
    ∃ p, Finset.univ.fold IntOp.minsi 2147483647#32 (fun l => if P l then BitVec.ofNat 32 (n l) else 2147483647#32) = BitVec.ofNat 32 p
      ∧ (∃ l, P l ∧ p = n l) ∧ ∀ l, P l → p ≤ n l := by
  obtain ⟨l₀, h₀⟩ := hP
  obtain ⟨l, hl, hmin⟩ := Finset.exists_min_image (Finset.univ.filter P) n ⟨l₀, by simpa using h₀⟩
  have hPl : P l := by simpa using hl
  have hmin' : ∀ l', P l' → n l ≤ n l' := fun l' h => hmin l' (by simpa using h)
  have hti : ∀ k, k < 2147483648 → (BitVec.ofNat 32 k).toInt = (k : ℤ) := fun k hk => by
    rw [BitVec.toInt_eq_toNat_of_lt (by rw [BitVec.toNat_ofNat]; omega), BitVec.toNat_ofNat, Nat.mod_eq_of_lt (by omega)]
  refine ⟨n l, ?_, ⟨l, hPl, rfl⟩, hmin'⟩
  apply BitVec.eq_of_toInt_eq
  rw [← Finset.fold_hom (op := IntOp.minsi) (op' := min) (m := BitVec.toInt) (fun a b => minsi_toInt a b), hti (n l) (by have := hn l; omega)]
  apply le_antisymm
  · refine (Finset.fold_min_le _).2 (Or.inr ⟨l, Finset.mem_univ _, ?_⟩)
    rw [if_pos hPl, hti (n l) (by have := hn l; omega)]
  · refine (Finset.le_fold_min _).2 ⟨?_, fun l' _ => ?_⟩
    · rw [show (2147483647#32).toInt = 2147483647 from by decide]; have := hn l; omega
    · by_cases h : P l'
      · rw [if_pos h, hti (n l') (by have := hn l'; omega)]; exact_mod_cast hmin' l' h
      · rw [if_neg h, show (2147483647#32).toInt = 2147483647 from by decide]; have := hn l; omega

/-- The three results, from the lanes' running top two of `N` chunks: they are the top two of the whole row. -/
theorem final_at {N : ℕ} (hN : 0 < N) (hN' : N ≤ 250) (v : ℕ → EReal) (v7 v23 : FVec Ideal S48x128 .f32) (v10 : IVec S48x128 32) (b : Fin 48)
    (h : ∀ l : Fin 128, ∃ i : ℕ, v10 (ix2 b l) = BitVec.ofNat 32 i
      ∧ Top2 (fun j => v (j * 128 + l)) N (v7 (ix2 b l) : EReal) (v23 (ix2 b l) : EReal) i) :
    ∃ (s : EReal) (p : ℕ), Top2 v (N * 128) (k0_pay6 (F := Ideal) v7 (ix2 b 0) : EReal) s p
      ∧ (k0_pay9 (F := Ideal) v7 v10 v23 (ix2 b 0) : EReal) = (k0_pay6 (F := Ideal) v7 (ix2 b 0) : EReal) - s
      ∧ k0_pay8 (F := Ideal) v7 v10 (ix2 b 0) = BitVec.ofNat 32 p := by
  choose i hi ht using h
  have hlt : ∀ l, i l < 250 := fun l => lt_of_lt_of_le ((ht l).lt hN) hN'
  have h7 : ∀ l, k0_pay7 (F := Ideal) v10 (ix2 b l) = BitVec.ofNat 32 (i l * 128 + l) := fun l => by
    rw [pay7_at, hi l, BitVec.ofNat_add, BitVec.ofNat_mul]
  have hsmall : ∀ l, i l * 128 + l.val < 2147483647 := fun l => by have := hlt l; have := l.isLt; omega
  obtain ⟨p, hp, ⟨l₁, hl₁, e₁⟩, hmin⟩ := fold_min_word (fun l => (v7 (ix2 b l) : EReal) = k0_pay6 (F := Ideal) v7 (ix2 b 0))
    (fun l => i l * 128 + l.val) hsmall (by
      rw [pay6_at]
      rcases Cert.Math.fold_att (fun l : Fin 128 => (v7 (ix2 b l) : EReal)) with e | ⟨x, e⟩
      · refine ⟨0, ?_⟩
        rw [e]
        exact le_bot_iff.1 (e ▸ Cert.Math.le_fold (fun l : Fin 128 => (v7 (ix2 b l) : EReal)) 0)
      · exact ⟨x, e⟩)
  have h8 : k0_pay8 (F := Ideal) v7 v10 (ix2 b 0) = BitVec.ofNat 32 p := by
    rw [← hp]
    pointwise [k0_pay8]
    refine congrArg (fun f => Finset.fold _ _ f _) (funext fun l => ?_)
    rw [h7]
  have T := Top2.lanes (v := v) hN ht p ⟨l₁, by rw [hl₁, pay6_at], e₁⟩ (fun l e => hmin l (by rw [e, pay6_at]))
  refine ⟨_, p, (pay6_at v7 b) ▸ T, ?_, h8⟩
  pointwise [k0_pay9]
  rw [ofBits_bot, h8]
  refine congrArg₂ (· - ·) rfl (congrArg (fun f => Finset.fold _ _ f _) (funext fun l => ?_))
  have hpl : p < 2147483647 := by rw [e₁]; exact hsmall l₁
  by_cases e : i l * 128 + l.val = p
  · rw [if_pos e, h7, e]
    simp [Scalar.select, IntOp.cmpi]
  · have hne : BitVec.ofNat 32 (i l * 128 + l.val) ≠ BitVec.ofNat 32 p := fun q => e (by
      have := congrArg BitVec.toNat q
      rw [BitVec.toNat_ofNat, BitVec.toNat_ofNat, Nat.mod_eq_of_lt (by have := hsmall l; omega), Nat.mod_eq_of_lt (by omega)] at this
      exact this)
    rw [if_neg e, h7]
    simp only [Scalar.select, IntOp.cmpi, beq_eq_false_iff_ne.2 hne]
    rfl

end Cert.KernelIdeal.Hand
-- ==== Proof.PI.Tile.lean ====
/-
  One tile of 256 vocabulary rows: the inner loop over the 14 contraction tiles, as one sum a result element.
-/
module

public import proofs.«01_k».proof.Proof.PI.Trip
public import proofs.«01_k».proof.Proof.PI.Lanes

@[expose] public section

set_option maxRecDepth 16384

noncomputable section

namespace Cert.KernelIdeal.Hand

open Cert.KernelIdeal Cert.KernelIdeal.Gen
open Idealize.ShloMosaic Idealize.ShloMosaic.TcCoe
open Cert.Math (codeOf rowOf rowOf_of_lt term logit)

/-- A load, at the place that the loaded index stands for. -/
theorem readAt_at {S : Shape} {e : EltTy} (M : Memref sig .tc .vmem S e) (f : Held (F := Ideal) M) (r : Rect S) (x : r.shape.Idx) (y : S.Idx)
    (h : ∀ a, (y a).val = r.off a + r.stride a * (x a).val) : M.view.readAt (Elt Ideal) r.toLoadRect f x = M.view.read (Elt Ideal) f y := by
  show M.view.read (Elt Ideal) f (r.emb x) = _
  rw [r.emb_eq_of_coords x y h]

/-- The same of a unit-stride rectangle whose offsets have a closed form. -/
theorem readAt_unit {S : Shape} {e : EltTy} (M : Memref sig .tc .vmem S e) (f : Held (F := Ideal) M) (o o' sz : Fin S.rank → ℕ) (ho : o = o')
    (hb : ∀ a, o a + sz a ≤ S.size a) (x : (Rect.unit (s := S) o sz hb).shape.Idx) (y : S.Idx) (h : ∀ a, (y a).val = o' a + (x a).val) :
    M.view.readAt (Elt Ideal) (Rect.unit (s := S) o sz hb).toLoadRect f x = M.view.read (Elt Ideal) f y := by
  subst ho
  exact readAt_at M f _ x y fun a => by rw [h a]; simp [Rect.unit]

section

variable (arg7 : Memref sig .tc .vmem S2x5x56x2x256 .bf16) (f7 : Held (F := Ideal) arg7)
  (o o3 o2 : Fin 5 → ℕ) (k q : ℕ) (hk : k < 5) (hq : q < 56)
  (e3 : o3 = ![1, k, 0, 0, 0]) (e2 : o2 = ![0, k, 0, 0, 0])
  (i : ∀ a, o a + S1x1x1x2x256.size a ≤ S2x5x56x2x256.size a) (i3 : ∀ a, o3 a + S1x1x56x2x256.size a ≤ S2x5x56x2x256.size a)
  (i2 : ∀ a, o2 a + S1x1x56x2x256.size a ≤ S2x5x56x2x256.size a)
  (P3 P2 : Vec Ideal S1x1x56x2x256 .bf16) (p : Fin 2) (r : Fin 256)

include hk e3 e2 in
/-- A row of the first half, read back: the even scale columns' row. -/
theorem read_even (e : o = ![0, k, q, 0, 0]) :
    arg7.view.readAt (Elt Ideal) (Rect.unit (s := S2x5x56x2x256) o S1x1x1x2x256.size i).toLoadRect
      (arg7.view.writes (Elt Ideal) f7 [⟨Rect.unit (s := S2x5x56x2x256) o3 S1x1x56x2x256.size i3, P3⟩, ⟨Rect.unit (s := S2x5x56x2x256) o2 S1x1x56x2x256.size i2, P2⟩])
      (ix5 0 0 0 p r) = P2 (ix5 0 0 ⟨q, hq⟩ p r) := by
  subst e e3 e2
  rw [readAt_at arg7 _ _ _ (ix5 (n0 := 2) (n1 := 5) (n2 := 56) (n3 := 2) (n4 := 256) 0 ⟨k, hk⟩ ⟨q, hq⟩ p r) (fun a => by fin_cases a <;> simp [Rect.unit])]
  rw [View.read_writes_cons_miss_of_axis _ _ _ _ _ 0 1 1 rfl rfl rfl (Or.inl (show (0 : ℕ) < 1 from Nat.one_pos))]
  exact View.read_writes_cons_hit_of_coords _ _ _ _ _ _ _ (fun a => by fin_cases a <;> simp [Rect.unit])

include hk e3 e2 in
/-- A row of the second half: the odd columns'. -/
theorem read_odd (e : o = ![1, k, q, 0, 0]) :
    arg7.view.readAt (Elt Ideal) (Rect.unit (s := S2x5x56x2x256) o S1x1x1x2x256.size i).toLoadRect
      (arg7.view.writes (Elt Ideal) f7 [⟨Rect.unit (s := S2x5x56x2x256) o3 S1x1x56x2x256.size i3, P3⟩, ⟨Rect.unit (s := S2x5x56x2x256) o2 S1x1x56x2x256.size i2, P2⟩])
      (ix5 0 0 0 p r) = P3 (ix5 0 0 ⟨q, hq⟩ p r) := by
  subst e e3 e2
  rw [readAt_at arg7 _ _ _ (ix5 (n0 := 2) (n1 := 5) (n2 := 56) (n3 := 2) (n4 := 256) 1 ⟨k, hk⟩ ⟨q, hq⟩ p r) (fun a => by fin_cases a <;> simp [Rect.unit])]
  exact View.read_writes_cons_hit_of_coords _ _ _ _ _ _ _ (fun a => by fin_cases a <;> simp [Rect.unit])

end

section

variable (c : Dev nD) (i : grid0.Coords)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x2x256 .bf16) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)
  (X1 : Held (F := Ideal) arg1) (X2 : Held (F := Ideal) arg2) (X3 : Held (F := Ideal) arg3)

/-- Row `b` of the activations held. -/
def xRow (b : Fin 48) : ℕ → EReal := rowOf 0 fun k : Fin 3584 => (arg1.view.read (Elt Ideal) X1 (ix2 b k) : EReal)

/-- Row `r` of the bytes held. -/
def wRow (r : Fin 1280) : ℕ → BitVec 8 := rowOf 0#8 fun k : Fin 1792 => (arg2.view.read (Elt Ideal) X2 (ix2 r k) : BitVec 8)

/-- Row `r` of the scales held. -/
def sRow (r : Fin 1280) : ℕ → EReal := rowOf 0 fun k : Fin 112 => (arg3.view.read (Elt Ideal) X3 (ix2 r k) : EReal)

theorem t1_lt (k : Fin k0_t1_loop.trips) : k.val < 5 := Nat.lt_of_lt_of_le k.isLt k0_t1_abs.2.1
theorem t2_lt (k : Fin k0_t2_loop.trips) : k.val < 14 := Nat.lt_of_lt_of_le k.isLt k0_t2_abs.2.1

/-- Row `r` of tile `k`, in the block. -/
def tileRow (k : Fin k0_t1_loop.trips) (r : Fin 256) : Fin 1280 := ⟨256 * k.val + r.val, by have := t1_lt k; have := r.isLt; omega⟩

/-- The scale block of a tile, loaded. -/
abbrev sLoad (k : Fin k0_t1_loop.trips) : Vec Ideal S256x112 .bf16 :=
  View.readAt (Elt Ideal) arg3.view (Rect.unit (s := S1280x112) (k0_off1 k) S256x112.size (k0_off1_inb k)).toLoadRect X3

theorem sLoad_at (k : Fin k0_t1_loop.trips) (r : Fin 256) (q : ℕ) (hq : q < 112) :
    (sLoad arg3 X3 k (ix2 r ⟨q, hq⟩) : EReal) = sRow arg3 X3 (tileRow k r) q := by
  rw [sRow, rowOf_of_lt _ _ _ hq]
  exact readAt_unit arg3 X3 _ _ _ (k0_off1_eq k) _ _ _ fun a => by fin_cases a <;> simp [tileRow]

/-- The scratch of the scales after the tile's two stores. -/
abbrev sBuf (f7 : Held (F := Ideal) arg7) (k : Fin k0_t1_loop.trips) : Held (F := Ideal) arg7 :=
  arg7.view.writes (Elt Ideal) f7
    [⟨Rect.unit (s := S2x5x56x2x256) (k0_off3 k) S1x1x56x2x256.size (k0_off3_inb k), k0_pay22 (sLoad arg3 X3 k)⟩,
      ⟨Rect.unit (s := S2x5x56x2x256) (k0_off2 k) S1x1x56x2x256.size (k0_off2_inb k), k0_pay21 (sLoad arg3 X3 k)⟩]

/-- One trip of the inner loop adds its 256 products. -/
theorem inner_step (f7 : Held (F := Ideal) arg7) (k : Fin k0_t1_loop.trips) (t : Fin k0_t2_loop.trips) (v8 : BitVec 32) (v10 : BitVec 32)
    (acc : FVec Ideal S48x256 .f32) (b : Fin 48) (r : Fin 256) :
    ((trip_k0_t2 (F := Ideal) 𝒱₀ c none i arg1 harg1 arg2 harg2 arg3 harg3 arg4 harg4 arg5 harg5 arg6 harg6 arg7 harg7 arg8 harg8 arg9 harg9 arg10 harg10
        0#32 1#32 k v8 v10 X1 X2 (sBuf arg3 arg7 X3 f7 k) t).1 acc (ix2 b r) : EReal)
      = (acc (ix2 b r) : EReal) + ∑ j ∈ Finset.range 256, term (xRow arg1 X1 b) (wRow arg2 X2 (tileRow k r)) (sRow arg3 X3 (tileRow k r)) (256 * t.val + j) := by
  have hk := t1_lt k
  have ht := t2_lt t
  unfold trip_k0_t2
  dsimp only
  refine (pay24_at acc _ _ _ _ _ _ _ _ _ (fun g r => sRow arg3 X3 (tileRow k r) (8 * t.val + g.val)) ?_ ?_ ?_ ?_ ?_ ?_ ?_ ?_ _ b r).trans ?_
  · intro p r; exact (read_even arg7 f7 _ _ _ k.val (4 * t.val + 0) hk (by omega) (k0_off3_eq k) (k0_off2_eq k) _ _ _ _ _ p r (k0_off5_eq k t 0)).trans
      ((pay21_at _ _ p r).trans ((sLoad_at arg3 X3 k r _ _).trans (congrArg _ (by show 2 * (4 * t.val + 0) = 8 * t.val + 0; omega))))
  · intro p r; exact (read_odd arg7 f7 _ _ _ k.val (4 * t.val + 0) hk (by omega) (k0_off3_eq k) (k0_off2_eq k) _ _ _ _ _ p r (k0_off6_eq k t 0)).trans
      ((pay22_at _ _ p r).trans ((sLoad_at arg3 X3 k r _ _).trans (congrArg _ (by show 2 * (4 * t.val + 0) + 1 = 8 * t.val + 1; omega))))
  · intro p r; exact (read_even arg7 f7 _ _ _ k.val (4 * t.val + 1) hk (by omega) (k0_off3_eq k) (k0_off2_eq k) _ _ _ _ _ p r (k0_off5_eq k t 1)).trans
      ((pay21_at _ _ p r).trans ((sLoad_at arg3 X3 k r _ _).trans (congrArg _ (by show 2 * (4 * t.val + 1) = 8 * t.val + 2; omega))))
  · intro p r; exact (read_odd arg7 f7 _ _ _ k.val (4 * t.val + 1) hk (by omega) (k0_off3_eq k) (k0_off2_eq k) _ _ _ _ _ p r (k0_off6_eq k t 1)).trans
      ((pay22_at _ _ p r).trans ((sLoad_at arg3 X3 k r _ _).trans (congrArg _ (by show 2 * (4 * t.val + 1) + 1 = 8 * t.val + 3; omega))))
  · intro p r; exact (read_even arg7 f7 _ _ _ k.val (4 * t.val + 2) hk (by omega) (k0_off3_eq k) (k0_off2_eq k) _ _ _ _ _ p r (k0_off5_eq k t 2)).trans
      ((pay21_at _ _ p r).trans ((sLoad_at arg3 X3 k r _ _).trans (congrArg _ (by show 2 * (4 * t.val + 2) = 8 * t.val + 4; omega))))
  · intro p r; exact (read_odd arg7 f7 _ _ _ k.val (4 * t.val + 2) hk (by omega) (k0_off3_eq k) (k0_off2_eq k) _ _ _ _ _ p r (k0_off6_eq k t 2)).trans
      ((pay22_at _ _ p r).trans ((sLoad_at arg3 X3 k r _ _).trans (congrArg _ (by show 2 * (4 * t.val + 2) + 1 = 8 * t.val + 5; omega))))
  · intro p r; exact (read_even arg7 f7 _ _ _ k.val (4 * t.val + 3) hk (by omega) (k0_off3_eq k) (k0_off2_eq k) _ _ _ _ _ p r (k0_off5_eq k t 3)).trans
      ((pay21_at _ _ p r).trans ((sLoad_at arg3 X3 k r _ _).trans (congrArg _ (by show 2 * (4 * t.val + 3) = 8 * t.val + 6; omega))))
  · intro p r; exact (read_odd arg7 f7 _ _ _ k.val (4 * t.val + 3) hk (by omega) (k0_off3_eq k) (k0_off2_eq k) _ _ _ _ _ p r (k0_off6_eq k t 3)).trans
      ((pay22_at _ _ p r).trans ((sLoad_at arg3 X3 k r _ _).trans (congrArg _ (by show 2 * (4 * t.val + 3) + 1 = 8 * t.val + 7; omega))))
  · refine congrArg₂ (· + ·) rfl ?_
    rw [Finset.sum_range]
    refine Finset.sum_congr rfl fun j _ => ?_
    have hj := j.isLt
    unfold term
    have e2 : (256 * t.val + j.val) / 2 = 128 * t.val + j.val / 2 := by omega
    have e3 : (256 * t.val + j.val) / 32 = 8 * t.val + j.val / 32 := by omega
    have e4 : (256 * t.val + j.val) % 2 = j.val % 2 := by omega
    rw [e2, e3, e4]
    refine congrArg₂ (· * ·) ?_ (congrArg₂ (· * ·) (congrArg (codeOf · _) ?_) rfl)
    · rw [xRow, rowOf_of_lt _ _ _ (show 256 * t.val + j.val < 3584 by omega)]
      exact readAt_unit arg1 X1 _ _ _ (k0_off7_eq t) _ _ _ fun a => by fin_cases a <;> simp
    · rw [wRow, rowOf_of_lt _ _ _ (show 128 * t.val + j.val / 2 < 1792 by omega)]
      exact readAt_unit arg2 X2 _ _ _ (k0_off4_eq k t) _ _ _ fun a => by fin_cases a <;> simp [tileRow]

theorem trips2 : k0_t2_loop.trips = 14 := by decide

/-- The inner loop: each result element is the whole product. -/
theorem inner_total (f7 : Held (F := Ideal) arg7) (k : Fin k0_t1_loop.trips) (v8 : BitVec 32) (v10 : BitVec 32) (b : Fin 48) (r : Fin 256) :
    (st_k0_t2 (F := Ideal) 𝒱₀ c none i arg1 harg1 arg2 harg2 arg3 harg3 arg4 harg4 arg5 harg5 arg6 harg6 arg7 harg7 arg8 harg8 arg9 harg9 arg10 harg10
        0#32 1#32 k v8 v10 X1 X2 (sBuf arg3 arg7 X3 f7 k) k0_pay23 k0_t2_loop.trips (ix2 b r) : EReal)
      = logit (xRow arg1 X1 b) (wRow arg2 X2 (tileRow k r)) (sRow arg3 X3 (tileRow k r)) := by
  have key : ∀ n ≤ k0_t2_loop.trips, (st_k0_t2 (F := Ideal) 𝒱₀ c none i arg1 harg1 arg2 harg2 arg3 harg3 arg4 harg4 arg5 harg5 arg6 harg6 arg7 harg7 arg8 harg8 arg9 harg9 arg10 harg10
        0#32 1#32 k v8 v10 X1 X2 (sBuf arg3 arg7 X3 f7 k) k0_pay23 n (ix2 b r) : EReal)
      = ∑ j ∈ Finset.range (256 * n), term (xRow arg1 X1 b) (wRow arg2 X2 (tileRow k r)) (sRow arg3 X3 (tileRow k r)) j := by
    intro n
    induction n with
    | zero => intro _; rw [st_k0_t2_zero, pay23_at]; simp
    | succ n ih =>
      intro hn
      rw [show n + 1 = (⟨n, hn⟩ : Fin k0_t2_loop.trips).val + 1 from rfl, st_k0_t2_succ]
      refine (inner_step c i arg1 harg1 arg2 harg2 arg3 harg3 arg4 harg4 arg5 harg5 arg6 harg6 arg7 harg7 arg8 harg8 arg9 harg9 arg10 harg10 X1 X2 X3 f7 k ⟨n, hn⟩ v8 v10 _ b r).trans ?_
      rw [ih (by omega), Nat.mul_succ, Finset.sum_range_add]
  rw [key _ le_rfl, trips2]
  rfl

end

end Cert.KernelIdeal.Hand

end
-- ==== Proof.PI.Body.lean ====
/-
  The kernel body on any whole staging memrefs at any grid point: the two conditionals on the grid coordinate and the
  loop over the five tiles. What it leaves is spelt as a recursion on one trip's results (`Trip.lean`).
-/
module

public import proofs.«01_k».proof.Proof.PI.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

/-- The first conditional's flag: 1 at grid coordinate 0. -/
abbrev cond1 (arg0 : BitVec 32) : BitVec 1 := Scalar.cmpi .ne (Scalar.extui (Scalar.cmpi .eq arg0 0#32) : BitVec 32) 0#32

section

variable (c : Dev nD) (i : grid0.Coords)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x2x256 .bf16) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)
  (arg0 : BitVec 32)

/-- What the four scratch buffers hold. -/
structure Scr (arg7 : Memref sig .tc .vmem S2x5x56x2x256 .bf16) (arg8 arg9 : Memref sig .tc .vmem S48x128 .f32)
    (arg10 : Memref sig .tc .vmem S48x128 .i32) : Type where
  f7 : Held (F := F) arg7
  f8 : Held (F := F) arg8
  f9 : Held (F := F) arg9
  f10 : Held (F := F) arg10

/-- One trip's effect on the scratch. -/
def stepScr (k : Fin k0_t1_loop.trips) (X1 : Held (F := F) arg1) (X2 : Held (F := F) arg2) (X3 : Held (F := F) arg3)
    (s : Scr (F := F) arg7 arg8 arg9 arg10) : Scr (F := F) arg7 arg8 arg9 arg10 :=
  let T := trip c i arg1 harg1 arg2 harg2 arg3 harg3 arg4 harg4 arg5 harg5 arg6 harg6 arg7 harg7 arg8 harg8 arg9 harg9 arg10 harg10 arg0 k X1 X2 X3 s.f7 s.f8 s.f9 s.f10
  ⟨T.1, T.2.1, T.2.2.1, T.2.2.2.1⟩

/-- The scratch before trip `n`, from what it held at loop entry. -/
def scrAt (X1 : Held (F := F) arg1) (X2 : Held (F := F) arg2) (X3 : Held (F := F) arg3)
    (s : Scr (F := F) arg7 arg8 arg9 arg10) : ℕ → Scr (F := F) arg7 arg8 arg9 arg10
  | 0 => s
  | n + 1 => if h : n < k0_t1_loop.trips then
      stepScr c i arg1 harg1 arg2 harg2 arg3 harg3 arg4 harg4 arg5 harg5 arg6 harg6 arg7 harg7 arg8 harg8 arg9 harg9 arg10 harg10 arg0 ⟨n, h⟩ X1 X2 X3 (scrAt X1 X2 X3 s n)
      else scrAt X1 X2 X3 s n

/-- The operand blocks and the scratch, held at `s`. -/
abbrev TripS (X1 : Held (F := F) arg1) (X2 : Held (F := F) arg2) (X3 : Held (F := F) arg3) (s : Scr (F := F) arg7 arg8 arg9 arg10) : sProp 𝕄 :=
  Trip c arg1 arg2 arg3 arg7 arg8 arg9 arg10 X1 X2 X3 s.f7 s.f8 s.f9 s.f10

/-- The whole loop over the five tiles. -/
theorem loop_run (E : Set ℕ) (X1 : Held (F := F) arg1) (X2 : Held (F := F) arg2) (X3 : Held (F := F) arg3) (s : Scr (F := F) arg7 arg8 arg9 arg10)
    {kk : Unit → Prog (TpuEff nD τ sig (Elt F) Λ₀ .tc) PUnit} {Q : PUnit → sProp 𝕄} :
    iprop(TripS c arg1 arg2 arg3 arg7 arg8 arg9 arg10 X1 X2 X3 s
      ∗ (TripS c arg1 arg2 arg3 arg7 arg8 arg9 arg10 X1 X2 X3
          (scrAt c i arg1 harg1 arg2 harg2 arg3 harg3 arg4 harg4 arg5 harg5 arg6 harg6 arg7 harg7 arg8 harg8 arg9 harg9 arg10 harg10 arg0 X1 X2 X3 s k0_t1_loop.trips)
          -∗ wp frame (wpE (defs₀ (F := F)) 𝒱₀ (c : Thread nD τ) none) E (kk ()) Q))
      ⊢ wp frame (wpE (defs₀ (F := F)) 𝒱₀ (c : Thread nD τ) none) E
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg0) >>= kk) Q := by
  have key : TripS c arg1 arg2 arg3 arg7 arg8 arg9 arg10 X1 X2 X3 s
      ⊢ iprop((∀ _ : Unit, TripS c arg1 arg2 arg3 arg7 arg8 arg9 arg10 X1 X2 X3
          (scrAt c i arg1 harg1 arg2 harg2 arg3 harg3 arg4 harg4 arg5 harg5 arg6 harg6 arg7 harg7 arg8 harg8 arg9 harg9 arg10 harg10 arg0 X1 X2 X3 s k0_t1_loop.trips)
          -∗ wp frame (wpE (defs₀ (F := F)) 𝒱₀ (c : Thread nD τ) none) E (kk ()) Q)
        -∗ wp frame (wpE (defs₀ (F := F)) 𝒱₀ (c : Thread nD τ) none) E
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg0) >>= kk) Q) :=
    Scf.wp_for_bind frame (wpE (defs₀ (F := F)) 𝒱₀ (c : Thread nD τ) none) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10 arg0)
      (fun n _ => TripS c arg1 arg2 arg3 arg7 arg8 arg9 arg10 X1 X2 X3 (scrAt c i arg1 harg1 arg2 harg2 arg3 harg3 arg4 harg4 arg5 harg5 arg6 harg6 arg7 harg7 arg8 harg8 arg9 harg9 arg10 harg10 arg0 X1 X2 X3 s n))
      (fun k acc => by
        rw [scrAt, dif_pos k.isLt]
        exact (trip c i arg1 harg1 arg2 harg2 arg3 harg3 arg4 harg4 arg5 harg5 arg6 harg6 arg7 harg7 arg8 harg8 arg9 harg9 arg10 harg10 arg0 k X1 X2 X3 _ _ _ _).2.2.2.2 E)
  iintro ⟨H, HK⟩
  iapply key $$ [H]
  · iexact H
  iintro %acc H
  iapply HK $$ H

/-- The scratch after the first conditional's stores: the running maxima at minus infinity, the index at zero. -/
abbrev scrInit (s : Scr (F := F) arg7 arg8 arg9 arg10) : Scr (F := F) arg7 arg8 arg9 arg10 :=
  ⟨s.f7, arg8.view.writes (Elt F) arg8.view.junk [⟨Rect.unit ![0, 0] S48x128.size inb_S48x128_S48x128_0_0, k0_pay1⟩],
    arg9.view.writes (Elt F) arg9.view.junk [⟨Rect.unit ![0, 0] S48x128.size inb_S48x128_S48x128_0_0, k0_pay2⟩],
    arg10.view.writes (Elt F) arg10.view.junk [⟨Rect.unit ![0, 0] S48x128.size inb_S48x128_S48x128_0_0, k0_pay3⟩]⟩

/-- A middle point: the loop alone. -/
theorem body_mid (h1 : ¬ cond1 (BitVec.ofNat 32 (i 0).val) = 1#1) (h2 : ¬ k0_cond2 i = 1#1)
    (E : Set ℕ) (X1 : Held (F := F) arg1) (X2 : Held (F := F) arg2) (X3 : Held (F := F) arg3) (s : Scr (F := F) arg7 arg8 arg9 arg10)
    (K : PUnit → sProp 𝕄) :
    iprop(TripS c arg1 arg2 arg3 arg7 arg8 arg9 arg10 X1 X2 X3 s
      ∗ (TripS c arg1 arg2 arg3 arg7 arg8 arg9 arg10 X1 X2 X3
          (scrAt c i arg1 harg1 arg2 harg2 arg3 harg3 arg4 harg4 arg5 harg5 arg6 harg6 arg7 harg7 arg8 harg8 arg9 harg9 arg10 harg10 (BitVec.ofNat 32 (i 0).val) X1 X2 X3 s k0_t1_loop.trips) -∗ K ⟨⟩))
      ⊢ wp frame (wpE (defs₀ (F := F)) 𝒱₀ (c : Thread nD τ) none) E (cc0_q4_head_top1 (F := F) i arg1 harg1 arg2 harg2 arg3 harg3 arg4 harg4 arg5 harg5 arg6 harg6 arg7 harg7 arg8 harg8 arg9 harg9 arg10 harg10) K := by
  rw [cc0_q4_head_top1_eq_skeleton]
  unfold cc0_q4_head_top1_skel
  rw [dif_neg h1, dif_neg h2]
  iintro ⟨H, HK⟩
  sl_exec
  iapply loop_run
  isplitl [H]; · iexact H
  iintro H
  sl_step
  iapply HK $$ H

/-- The first point: the scratch is initialised, then the loop. -/
theorem body_first (h1 : cond1 (BitVec.ofNat 32 (i 0).val) = 1#1) (h2 : ¬ k0_cond2 i = 1#1)
    (E : Set ℕ) (X1 : Held (F := F) arg1) (X2 : Held (F := F) arg2) (X3 : Held (F := F) arg3) (s : Scr (F := F) arg7 arg8 arg9 arg10)
    (K : PUnit → sProp 𝕄) :
    iprop(TripS c arg1 arg2 arg3 arg7 arg8 arg9 arg10 X1 X2 X3 s
      ∗ (TripS c arg1 arg2 arg3 arg7 arg8 arg9 arg10 X1 X2 X3
          (scrAt c i arg1 harg1 arg2 harg2 arg3 harg3 arg4 harg4 arg5 harg5 arg6 harg6 arg7 harg7 arg8 harg8 arg9 harg9 arg10 harg10 (BitVec.ofNat 32 (i 0).val) X1 X2 X3 (scrInit arg7 arg8 arg9 arg10 s) k0_t1_loop.trips) -∗ K ⟨⟩))
      ⊢ wp frame (wpE (defs₀ (F := F)) 𝒱₀ (c : Thread nD τ) none) E (cc0_q4_head_top1 (F := F) i arg1 harg1 arg2 harg2 arg3 harg3 arg4 harg4 arg5 harg5 arg6 harg6 arg7 harg7 arg8 harg8 arg9 harg9 arg10 harg10) K := by
  rw [cc0_q4_head_top1_eq_skeleton]
  unfold cc0_q4_head_top1_skel
  rw [dif_pos h1, dif_neg h2]
  iintro ⟨⟨H1, H2, H3, H7, H8, H9, H10⟩, HK⟩
  sl_exec
  iapply (loop_run c i arg1 harg1 arg2 harg2 arg3 harg3 arg4 harg4 arg5 harg5 arg6 harg6 arg7 harg7 arg8 harg8 arg9 harg9 arg10 harg10 (BitVec.ofNat 32 (i 0).val) E X1 X2 X3 (scrInit arg7 arg8 arg9 arg10 s))
  isplitl [H1 H2 H3 H7 H8 H9 H10]
  · dsimp only [TripS, Trip, scrInit]
    sl_close
  iintro H
  sl_step
  iapply HK $$ H

/-- The last point: the loop, then the three results read off the scratch. -/
theorem body_last (h1 : ¬ cond1 (BitVec.ofNat 32 (i 0).val) = 1#1) (h2 : k0_cond2 i = 1#1)
    (E : Set ℕ) (X1 : Held (F := F) arg1) (X2 : Held (F := F) arg2) (X3 : Held (F := F) arg3) (s s' : Scr (F := F) arg7 arg8 arg9 arg10)
    (hs' : s' = scrAt c i arg1 harg1 arg2 harg2 arg3 harg3 arg4 harg4 arg5 harg5 arg6 harg6 arg7 harg7 arg8 harg8 arg9 harg9 arg10 harg10 (BitVec.ofNat 32 (i 0).val) X1 X2 X3 s k0_t1_loop.trips)
    (f4 : Held (F := F) arg4) (f5 : Held (F := F) arg5) (f6 : Held (F := F) arg6) (K : PUnit → sProp 𝕄) :
    iprop(TripS c arg1 arg2 arg3 arg7 arg8 arg9 arg10 X1 X2 X3 s ∗ pt c arg4 f4 ∗ pt c arg5 f5 ∗ pt c arg6 f6
      ∗ (iprop(TripS c arg1 arg2 arg3 arg7 arg8 arg9 arg10 X1 X2 X3 s'
          ∗ pt c arg4 (arg4.view.writes (Elt F) f4 [⟨Rect.unit ![0, 0] S48x1.size inb_S48x1_S48x1_0_0,
              k0_pay8 (arg8.view.readAt (Elt F) (Rect.unit (s := S48x128) ![0, 0] S48x128.size inb_S48x128_S48x128_0_0).toLoadRect s'.f8)
                (arg10.view.readAt (Elt F) (Rect.unit (s := S48x128) ![0, 0] S48x128.size inb_S48x128_S48x128_0_0).toLoadRect s'.f10)⟩])
          ∗ pt c arg5 (arg5.view.writes (Elt F) f5 [⟨Rect.unit ![0, 0] S48x1.size inb_S48x1_S48x1_0_0,
              k0_pay9 (arg8.view.readAt (Elt F) (Rect.unit (s := S48x128) ![0, 0] S48x128.size inb_S48x128_S48x128_0_0).toLoadRect s'.f8)
                (arg10.view.readAt (Elt F) (Rect.unit (s := S48x128) ![0, 0] S48x128.size inb_S48x128_S48x128_0_0).toLoadRect s'.f10)
                (arg9.view.readAt (Elt F) (Rect.unit (s := S48x128) ![0, 0] S48x128.size inb_S48x128_S48x128_0_0).toLoadRect s'.f9)⟩])
          ∗ pt c arg6 (arg6.view.writes (Elt F) f6 [⟨Rect.unit ![0, 0] S48x1.size inb_S48x1_S48x1_0_0,
              k0_pay6 (arg8.view.readAt (Elt F) (Rect.unit (s := S48x128) ![0, 0] S48x128.size inb_S48x128_S48x128_0_0).toLoadRect s'.f8)⟩])) -∗ K ⟨⟩))
      ⊢ wp frame (wpE (defs₀ (F := F)) 𝒱₀ (c : Thread nD τ) none) E (cc0_q4_head_top1 (F := F) i arg1 harg1 arg2 harg2 arg3 harg3 arg4 harg4 arg5 harg5 arg6 harg6 arg7 harg7 arg8 harg8 arg9 harg9 arg10 harg10) K := by
  rw [cc0_q4_head_top1_eq_skeleton]
  unfold cc0_q4_head_top1_skel
  rw [dif_neg h1, dif_pos h2]
  iintro ⟨H, H4, H5, H6, HK⟩
  sl_exec
  iapply (loop_run c i arg1 harg1 arg2 harg2 arg3 harg3 arg4 harg4 arg5 harg5 arg6 harg6 arg7 harg7 arg8 harg8 arg9 harg9 arg10 harg10 (BitVec.ofNat 32 (i 0).val) E X1 X2 X3 s)
  isplitl [H]; · iexact H
  rw [← hs']
  iintro ⟨H1, H2, H3, H7, H8, H9, H10⟩
  sl_exec
  sl_step
  iapply HK
  sl_close

end

end Cert.KernelIdeal.Hand

end
-- ==== Proof.PI.Step.lean ====
/-
  What one trip of the outer loop leaves in the running top two of a lane: two steps, one for each half of the tile.
-/
module

public import proofs.«01_k».proof.Proof.PI.Tile
public import proofs.«01_k».proof.Proof.PI.Body

@[expose] public section

set_option maxRecDepth 16384

noncomputable section

namespace Cert.KernelIdeal.Hand

open Cert.KernelIdeal Cert.KernelIdeal.Gen
open Idealize.ShloMosaic Idealize.ShloMosaic.TcCoe
open Cert.Math (codeOf rowOf rowOf_of_lt term logit Top2)

/-- A whole-block store, read back. -/
theorem read_whole {S : Shape} {e : EltTy} (M : Memref sig .tc .vmem S e) (f : Held (F := Ideal) M) (o : Fin S.rank → ℕ) (ho : ∀ a, o a = 0)
    (hb : ∀ a, o a + S.size a ≤ S.size a) (P : S.Idx → Elt Ideal e) (L : List (View.Piece (Elt Ideal) S e)) (y : S.Idx) :
    M.view.read (Elt Ideal) (M.view.writes (Elt Ideal) f (⟨Rect.unit (s := S) o S.size hb, P⟩ :: L)) y = P y :=
  View.read_writes_cons_hit_of_coords _ _ (Rect.unit (s := S) o S.size hb) P L y y fun a => by simp [Rect.unit, ho a]

/-- A whole-block load. -/
theorem readAt_whole {S : Shape} {e : EltTy} (M : Memref sig .tc .vmem S e) (f : Held (F := Ideal) M) (o : Fin S.rank → ℕ) (ho : ∀ a, o a = 0)
    (hb : ∀ a, o a + S.size a ≤ S.size a) (y : S.Idx) :
    M.view.readAt (Elt Ideal) (Rect.unit (s := S) o S.size hb).toLoadRect f y = M.view.read (Elt Ideal) f y :=
  readAt_unit M f o o S.size rfl hb y y fun a => by simp [ho a]

/-- A whole-block load that the last whole-block store answers. -/
theorem readCov_whole {S : Shape} {e : EltTy} (M : Memref sig .tc .vmem S e) (o : Fin S.rank → ℕ) (ho : ∀ a, o a = 0)
    (hb : ∀ a, o a + S.size a ≤ S.size a) (P : S.Idx → Elt Ideal e) (L : List (View.Piece (Elt Ideal) S e)) (y : S.Idx) :
    M.view.readCov (⟨Rect.unit (s := S) o S.size hb, P⟩ :: L) (Rect.unit (s := S) o S.size hb).toLoadRect y = P y :=
  (readAt_whole M _ o ho hb y).trans (read_whole M _ o ho hb P L y)

section

variable (c : Dev nD) (i : grid0.Coords)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x2x256 .bf16) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)
  (arg0 : BitVec 32)
  (X1 : Held (F := Ideal) arg1) (X2 : Held (F := Ideal) arg2) (X3 : Held (F := Ideal) arg3) (s : Scr (F := Ideal) arg7 arg8 arg9 arg10)

theorem z2 : ∀ a : Fin 2, (![0, 0] : Fin 2 → ℕ) a = 0 := by decide

/-- The product of activation row `b` with block row `r`. -/
def blockLogit (b : Fin 48) (r : Fin 1280) : EReal := logit (xRow arg1 X1 b) (wRow arg2 X2 r) (sRow arg3 X3 r)

abbrev halfRow (k : Fin k0_t1_loop.trips) (l : Fin 128) : Fin 1280 := tileRow k ⟨l.val, by have := l.isLt; omega⟩
abbrev halfRow' (k : Fin k0_t1_loop.trips) (l : Fin 128) : Fin 1280 := tileRow k ⟨128 + l.val, by have := l.isLt; omega⟩

abbrev best (s : Scr (F := Ideal) arg7 arg8 arg9 arg10) (b : Fin 48) (l : Fin 128) : EReal := arg8.view.read (Elt Ideal) s.f8 (ix2 b l)
abbrev second (s : Scr (F := Ideal) arg7 arg8 arg9 arg10) (b : Fin 48) (l : Fin 128) : EReal := arg9.view.read (Elt Ideal) s.f9 (ix2 b l)
abbrev place (s : Scr (F := Ideal) arg7 arg8 arg9 arg10) (b : Fin 48) (l : Fin 128) : BitVec 32 := arg10.view.read (Elt Ideal) s.f10 (ix2 b l)

/-- The left half of a tile's product, and the right. -/
theorem left_at (k : Fin k0_t1_loop.trips) (f7 : Held (F := Ideal) arg7) (b : Fin 48) (l : Fin 128) :
    (trip.sl.r_1 c i arg1 harg1 arg2 harg2 arg3 harg3 arg4 harg4 arg5 harg5 arg6 harg6 arg7 harg7 arg8 harg8 arg9 harg9 arg10 harg10 k X1 X2 X3 f7 (ix2 b l) : EReal)
      = blockLogit arg1 arg2 arg3 X1 X2 X3 b (halfRow k l) :=
  (pay25_at _ b l).trans (inner_total c i arg1 harg1 arg2 harg2 arg3 harg3 arg4 harg4 arg5 harg5 arg6 harg6 arg7 harg7 arg8 harg8 arg9 harg9 arg10 harg10 X1 X2 X3 f7 k _ _ b _)

theorem full_at (k : Fin k0_t1_loop.trips) (f7 : Held (F := Ideal) arg7) (b : Fin 48) (r : Fin 256) :
    (trip.sl.r c i arg1 harg1 arg2 harg2 arg3 harg3 arg4 harg4 arg5 harg5 arg6 harg6 arg7 harg7 arg8 harg8 arg9 harg9 arg10 harg10 k X1 X2 X3 f7 (ix2 b r) : EReal)
      = blockLogit arg1 arg2 arg3 X1 X2 X3 b (tileRow k r) :=
  inner_total c i arg1 harg1 arg2 harg2 arg3 harg3 arg4 harg4 arg5 harg5 arg6 harg6 arg7 harg7 arg8 harg8 arg9 harg9 arg10 harg10 X1 X2 X3 f7 k _ _ b r

section

variable (k : Fin k0_t1_loop.trips) (f7 : Held (F := Ideal) arg7) (f8 : Held (F := Ideal) arg8) (f9 : Held (F := Ideal) arg9) (f10 : Held (F := Ideal) arg10)
  (b : Fin 48) (l : Fin 128)

/-- After the left half: the greater of the two. -/
theorem mid8 : (trip.sl.v60 c i arg1 harg1 arg2 harg2 arg3 harg3 arg4 harg4 arg5 harg5 arg6 harg6 arg7 harg7 arg8 harg8 arg9 harg9 arg10 harg10 k X1 X2 X3 f7 f8 (ix2 b l) : EReal)
    = max (arg8.view.read (Elt Ideal) f8 (ix2 b l) : EReal) (blockLogit arg1 arg2 arg3 X1 X2 X3 b (halfRow k l)) := by
  refine (readCov_whole arg8 _ z2 _ _ _ _).trans ((pay28_at _ _ b l).trans ?_)
  exact congrArg₂ max (readAt_whole arg8 f8 _ z2 _ _) (left_at c i arg1 harg1 arg2 harg2 arg3 harg3 arg4 harg4 arg5 harg5 arg6 harg6 arg7 harg7 arg8 harg8 arg9 harg9 arg10 harg10 X1 X2 X3 k f7 b l)

/-- After the left half: the second. -/
theorem mid9 : (trip.sl.v72 c i arg1 harg1 arg2 harg2 arg3 harg3 arg4 harg4 arg5 harg5 arg6 harg6 arg7 harg7 arg8 harg8 arg9 harg9 arg10 harg10 k X1 X2 X3 f7 f8 f9 (ix2 b l) : EReal)
    = max (arg9.view.read (Elt Ideal) f9 (ix2 b l) : EReal)
        (min (arg8.view.read (Elt Ideal) f8 (ix2 b l) : EReal) (blockLogit arg1 arg2 arg3 X1 X2 X3 b (halfRow k l))) := by
  refine (readCov_whole arg9 _ z2 _ _ _ _).trans ((pay27_at _ _ _ b l).trans ?_)
  exact congrArg₂ max (readAt_whole arg9 f9 _ z2 _ _) (congrArg₂ min (readAt_whole arg8 f8 _ z2 _ _)
    (left_at c i arg1 harg1 arg2 harg2 arg3 harg3 arg4 harg4 arg5 harg5 arg6 harg6 arg7 harg7 arg8 harg8 arg9 harg9 arg10 harg10 X1 X2 X3 k f7 b l))

/-- The chunk number of a tile's left half. -/
def chunkWord : BitVec 32 := (arg0 * 5#32 + trip.sl.v8 k) * 2#32

/-- After the left half: the chunk of the greatest. -/
theorem mid10 : (trip.sl.v66 c i arg1 harg1 arg2 harg2 arg3 harg3 arg4 harg4 arg5 harg5 arg6 harg6 arg7 harg7 arg8 harg8 arg9 harg9 arg10 harg10 arg0 k X1 X2 X3 f7 f8 f10 (ix2 b l) : BitVec 32)
    = if (arg8.view.read (Elt Ideal) f8 (ix2 b l) : EReal) < blockLogit arg1 arg2 arg3 X1 X2 X3 b (halfRow k l) then chunkWord arg0 k + 0#32
      else (arg10.view.read (Elt Ideal) f10 (ix2 b l) : BitVec 32) := by
  refine (readCov_whole arg10 _ z2 _ _ _ _).trans ((pay26_at _ _ _ _ _ b l).trans ?_)
  rw [left_at]
  rw [show trip.sl.r_2 arg8 f8 (ix2 b l) = arg8.view.read (Elt Ideal) f8 (ix2 b l) from readAt_whole arg8 f8 _ z2 _ _]
  exact congrArg (fun z => if (_ : EReal) < _ then _ else z) (readAt_whole arg10 f10 _ z2 _ _)

theorem trip8 :
    (arg8.view.read (Elt Ideal) (trip c i arg1 harg1 arg2 harg2 arg3 harg3 arg4 harg4 arg5 harg5 arg6 harg6 arg7 harg7 arg8 harg8 arg9 harg9 arg10 harg10 arg0 k X1 X2 X3 f7 f8 f9 f10).2.1 (ix2 b l) : EReal)
      = max (max (arg8.view.read (Elt Ideal) f8 (ix2 b l) : EReal) (blockLogit arg1 arg2 arg3 X1 X2 X3 b (halfRow k l)))
          (blockLogit arg1 arg2 arg3 X1 X2 X3 b (halfRow' k l)) := by
  unfold trip
  dsimp only
  refine (read_whole arg8 _ _ z2 _ _ _ _).trans ((pay5_at _ _ b l).trans ?_)
  exact congrArg₂ max (mid8 ..) ((pay29_at _ b l).trans (full_at ..))

theorem trip9 :
    (arg9.view.read (Elt Ideal) (trip c i arg1 harg1 arg2 harg2 arg3 harg3 arg4 harg4 arg5 harg5 arg6 harg6 arg7 harg7 arg8 harg8 arg9 harg9 arg10 harg10 arg0 k X1 X2 X3 f7 f8 f9 f10).2.2.1 (ix2 b l) : EReal)
      = max (max (arg9.view.read (Elt Ideal) f9 (ix2 b l) : EReal)
            (min (arg8.view.read (Elt Ideal) f8 (ix2 b l) : EReal) (blockLogit arg1 arg2 arg3 X1 X2 X3 b (halfRow k l))))
          (min (max (arg8.view.read (Elt Ideal) f8 (ix2 b l) : EReal) (blockLogit arg1 arg2 arg3 X1 X2 X3 b (halfRow k l)))
            (blockLogit arg1 arg2 arg3 X1 X2 X3 b (halfRow' k l))) := by
  unfold trip
  dsimp only
  refine (read_whole arg9 _ _ z2 _ _ _ _).trans ((pay4_at _ _ _ b l).trans ?_)
  exact congrArg₂ max (mid9 ..) (congrArg₂ min (mid8 ..) ((pay29_at _ b l).trans (full_at ..)))

theorem trip10 :
    (arg10.view.read (Elt Ideal) (trip c i arg1 harg1 arg2 harg2 arg3 harg3 arg4 harg4 arg5 harg5 arg6 harg6 arg7 harg7 arg8 harg8 arg9 harg9 arg10 harg10 arg0 k X1 X2 X3 f7 f8 f9 f10).2.2.2.1 (ix2 b l) : BitVec 32)
      = if max (arg8.view.read (Elt Ideal) f8 (ix2 b l) : EReal) (blockLogit arg1 arg2 arg3 X1 X2 X3 b (halfRow k l))
            < blockLogit arg1 arg2 arg3 X1 X2 X3 b (halfRow' k l) then chunkWord arg0 k + 1#32
        else if (arg8.view.read (Elt Ideal) f8 (ix2 b l) : EReal) < blockLogit arg1 arg2 arg3 X1 X2 X3 b (halfRow k l) then chunkWord arg0 k + 0#32
        else (arg10.view.read (Elt Ideal) f10 (ix2 b l) : BitVec 32) := by
  unfold trip
  dsimp only
  refine (read_whole arg10 _ _ z2 _ _ _ _).trans ((pay30_at _ _ _ _ _ b l).trans ?_)
  rw [mid8, full_at, mid10]
  rfl

end

/-- A chunk's number as a word. -/
theorem chunkWord_eq (a : Fin 25) (k : Fin k0_t1_loop.trips) : chunkWord (BitVec.ofNat 32 a.val) k = BitVec.ofNat 32 ((5 * a.val + k.val) * 2) := by
  revert a k
  decide +kernel

/-- Trip `k` at grid point `a` takes each lane's top two two chunks further. -/
theorem step_top2 (a : Fin 25) (k : Fin k0_t1_loop.trips) (b : Fin 48) (l : Fin 128) (v : ℕ → EReal)
    (hv0 : v ((5 * a.val + k.val) * 2) = blockLogit arg1 arg2 arg3 X1 X2 X3 b (halfRow k l))
    (hv1 : v ((5 * a.val + k.val) * 2 + 1) = blockLogit arg1 arg2 arg3 X1 X2 X3 b (halfRow' k l))
    (h : ∃ n : ℕ, place arg7 arg8 arg9 arg10 s b l = BitVec.ofNat 32 n
      ∧ Top2 v ((5 * a.val + k.val) * 2) (best arg7 arg8 arg9 arg10 s b l) (second arg7 arg8 arg9 arg10 s b l) n)
    (s' : Scr (F := Ideal) arg7 arg8 arg9 arg10)
    (hs' : s' = stepScr c i arg1 harg1 arg2 harg2 arg3 harg3 arg4 harg4 arg5 harg5 arg6 harg6 arg7 harg7 arg8 harg8 arg9 harg9 arg10 harg10 (BitVec.ofNat 32 a.val) k X1 X2 X3 s) :
    ∃ n : ℕ, place arg7 arg8 arg9 arg10 s' b l = BitVec.ofNat 32 n
      ∧ Top2 v ((5 * a.val + (k.val + 1)) * 2) (best arg7 arg8 arg9 arg10 s' b l) (second arg7 arg8 arg9 arg10 s' b l) n := by
  obtain ⟨n, hn, ht⟩ := h
  subst hs'
  have h1 := ht.step.step
  rw [hv0, hv1] at h1
  refine ⟨if max (best arg7 arg8 arg9 arg10 s b l) (blockLogit arg1 arg2 arg3 X1 X2 X3 b (halfRow k l)) < blockLogit arg1 arg2 arg3 X1 X2 X3 b (halfRow' k l)
      then (5 * a.val + k.val) * 2 + 1
      else if best arg7 arg8 arg9 arg10 s b l < blockLogit arg1 arg2 arg3 X1 X2 X3 b (halfRow k l) then (5 * a.val + k.val) * 2 else n, ?_, ?_⟩
  · refine (trip10 ..).trans ?_
    rw [chunkWord_eq, show arg10.view.read (Elt Ideal) s.f10 (ix2 b l) = BitVec.ofNat 32 n from hn]
    unfold best
    split_ifs
    · rw [BitVec.ofNat_add]
    · exact BitVec.add_zero _
    · rfl
  · convert h1 using 1
    · omega
    · exact trip8 ..
    · exact trip9 ..

end

end Cert.KernelIdeal.Hand

end
-- ==== Proof.PI.Frame.lean ====
/-
  The frame: the body obligation of the 25-point grid with the result windows forgotten, and the run.
-/
module

public import proofs.«01_k».proof.Proof.PI.Body
public import Idealize.ShloMosaic.Lib.Pipeline.Quiescent

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra: the frame kit's. -/
local notation "𝕄" => MT nD τ sig Unit (Elt F) ℕ (UR sig nD τ) ℕ

variable (m : (ℓ : Loc nD τ sig) → Buf (Elt F) ℓ) (ρ : Dev nD → PrngReg)

/-- The result windows, whose contents the frame does not name. -/
abbrev forgets : Fin 6 → Bool := fun | 0 => false | 1 => false | 2 => false | 3 => true | 4 => true | 5 => true | ⟨_ + 6, h⟩ => absurd h (Nat.not_lt.2 (Nat.le_add_left _ _))

/-- The frame's proof data: each input's buffer stays at its block; the scratch at anything. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (fun _ => 0#32 : Vec F S48x1 .i32)
    | ⟨4, _⟩ => (fun _ => Scalar.ofBits .f32 0 : Vec F S48x1 .f32)
    | ⟨5, _⟩ => (fun _ => Scalar.ofBits .f32 0 : Vec F S48x1 .f32)
  Φ _ := Pipeline.ΦA spec0 c
  q _ := fullShare
  owed _ := 0

theorem fafter0_0 (c : Dev nD) (t : Fin cfg0.N) : (fdats m 0 c).after 0 t = iblk m c 0 t := by dsimp only [fdats]
theorem fafter0_1 (c : Dev nD) (t : Fin cfg0.N) : (fdats m 0 c).after 1 t = iblk m c 1 t := by dsimp only [fdats]
theorem fafter0_2 (c : Dev nD) (t : Fin cfg0.N) : (fdats m 0 c).after 2 t = iblk m c 2 t := by dsimp only [fdats]

theorem fbefore0_0 (c : Dev nD) (t : Fin cfg0.N) (d) : (fdats m 0 c).before 0 t d = iblk m c 0 t :=
  before0_0_of m (fdats m 0 c) rfl (fafter0_0 m c) t d
theorem fbefore0_1 (c : Dev nD) (t : Fin cfg0.N) (d) : (fdats m 0 c).before 1 t d = iblk m c 1 t :=
  before0_1_of m (fdats m 0 c) rfl (fafter0_1 m c) t d
theorem fbefore0_2 (c : Dev nD) (t : Fin cfg0.N) (d) : (fdats m 0 c).before 2 t d = iblk m c 2 t :=
  before0_2_of m (fdats m 0 c) rfl (fafter0_2 m c) t d

theorem cond1_iff : ∀ t : Fin cfg0.N, cond1 (BitVec.ofNat 32 (grid0.coords t 0).val) = 1#1 ↔ t.val = 0 := by decide
theorem cond2_iff : ∀ t : Fin cfg0.N, k0_cond2 (grid0.coords t) = 1#1 ↔ t.val = 24 := by decide

section

variable (c : Dev nD) (i : grid0.Coords)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x2x256 .bf16) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)

/-- A memref whose contents nothing is said of. -/
abbrev any {S : Shape} {e : EltTy} (M : Memref sig .tc .vmem S e) : sProp 𝕄 := iprop(∃ f : Held (F := F) M, pt c M f)

/-- The body at any point, nothing said of what it leaves but in the operand blocks. -/
theorem body_any (h12 : ¬ (cond1 (BitVec.ofNat 32 (i 0).val) = 1#1 ∧ k0_cond2 i = 1#1))
    (E : Set ℕ) (X1 : Held (F := F) arg1) (X2 : Held (F := F) arg2) (X3 : Held (F := F) arg3) (K : PUnit → sProp 𝕄) :
    iprop((pt c arg1 X1 ∗ pt c arg2 X2 ∗ pt c arg3 X3 ∗ any c arg4 ∗ any c arg5 ∗ any c arg6 ∗ any c arg7 ∗ any c arg8 ∗ any c arg9 ∗ any c arg10)
      ∗ (iprop(pt c arg1 X1 ∗ pt c arg2 X2 ∗ pt c arg3 X3 ∗ any c arg4 ∗ any c arg5 ∗ any c arg6 ∗ any c arg7 ∗ any c arg8 ∗ any c arg9 ∗ any c arg10) -∗ K ⟨⟩))
      ⊢ wp frame (wpE (defs₀ (F := F)) 𝒱₀ (c : Thread nD τ) none) E
          (cc0_q4_head_top1 (F := F) i arg1 harg1 arg2 harg2 arg3 harg3 arg4 harg4 arg5 harg5 arg6 harg6 arg7 harg7 arg8 harg8 arg9 harg9 arg10 harg10) K := by
  iintro ⟨⟨H1, H2, H3, ⟨%f4, H4⟩, ⟨%f5, H5⟩, ⟨%f6, H6⟩, ⟨%f7, H7⟩, ⟨%f8, H8⟩, ⟨%f9, H9⟩, ⟨%f10, H10⟩⟩, HK⟩
  by_cases h2 : k0_cond2 i = 1#1
  · have h1 : ¬ cond1 (BitVec.ofNat 32 (i 0).val) = 1#1 := fun h => h12 ⟨h, h2⟩
    iapply (body_last c i arg1 harg1 arg2 harg2 arg3 harg3 arg4 harg4 arg5 harg5 arg6 harg6 arg7 harg7 arg8 harg8 arg9 harg9 arg10 harg10 h1 h2 E X1 X2 X3 ⟨f7, f8, f9, f10⟩ _ rfl f4 f5 f6 K)
    isplitl [H1 H2 H3 H7 H8 H9 H10]; · sl_close
    isplitl [H4]; · iexact H4
    isplitl [H5]; · iexact H5
    isplitl [H6]; · iexact H6
    iintro ⟨⟨H1, H2, H3, H7, H8, H9, H10⟩, H4, H5, H6⟩
    iapply HK
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10
  · by_cases h1 : cond1 (BitVec.ofNat 32 (i 0).val) = 1#1
    · iapply (body_first c i arg1 harg1 arg2 harg2 arg3 harg3 arg4 harg4 arg5 harg5 arg6 harg6 arg7 harg7 arg8 harg8 arg9 harg9 arg10 harg10 h1 h2 E X1 X2 X3 ⟨f7, f8, f9, f10⟩ K)
      isplitl [H1 H2 H3 H7 H8 H9 H10]; · sl_close
      iintro ⟨H1, H2, H3, H7, H8, H9, H10⟩
      iapply HK
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iexists _; iexact H10
    · iapply (body_mid c i arg1 harg1 arg2 harg2 arg3 harg3 arg4 harg4 arg5 harg5 arg6 harg6 arg7 harg7 arg8 harg8 arg9 harg9 arg10 harg10 h1 h2 E X1 X2 X3 ⟨f7, f8, f9, f10⟩ K)
      isplitl [H1 H2 H3 H7 H8 H9 H10]; · sl_close
      iintro ⟨H1, H2, H3, H7, H8, H9, H10⟩
      iapply HK
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iexists _; iexact H10

end

/-- The invariant between points: the four scratch buffers and the generator's register at anything. -/
theorem ΦA_eq (c : Dev nD) : (ΦA spec0 c : sProp 𝕄)
    = iprop((any c (Memref.whole cc0_scratch0) ∗ any c (Memref.whole cc0_scratch1) ∗ any c (Memref.whole cc0_scratch2) ∗ any c (Memref.whole cc0_scratch3))
        ∗ ∃ r, prngReg c r) := by
  unfold ΦA
  rw [scopedRest0_eq]
  unfold any pt
  simp only [Memref.view_whole, View.set_whole]

theorem fbody_obligation (c : Dev nD) : BodyObligation (fdats (F := F) m 0 c) (defs₀ (F := F)) 𝒱₀ () Set.univ forgets := fun t => by
  rw [bigSep_W0, bigSep_W0]
  sl_whnfR [defs₀, Defs.onTc]
  simp only [fbefore0_0, fbefore0_1, fbefore0_2]
  rw [show (fdats m 0 c).Φ t.succ = ΦA spec0 c from rfl, show (fdats m 0 c).Φ t.castSucc = ΦA spec0 c from rfl,
    show (fdats m 0 c).owesAt () t.succ = (fdats m 0 c).owesAt () t.castSucc from rfl, fafter0_0, fafter0_1, fafter0_2, ΦA_eq]
  unfold owns
  iintro ⟨⟨⟨H7, H8, H9, H10⟩, Hp⟩, Ho, ⟨%d1, %f1, %hf1, H1⟩, ⟨%d2, %f2, %hf2, H2⟩, ⟨%d3, %f3, %hf3, H3⟩, ⟨%d4, %f4, -, H4⟩, ⟨%d5, %f5, -, H5⟩, ⟨%d6, %f6, -, H6⟩⟩
  iapply (body_any c _ _ _ _ _ _ _ _ _ _ _ _ _ _ _ _ _ _ _ _ _
    (fun h => by have a := (cond1_iff t).1 h.1; have b := (cond2_iff t).1 h.2; omega) Set.univ f1 f2 f3 _)
  isplitl [H1 H2 H3 H4 H5 H6 H7 H8 H9 H10]
  · isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    isplitl [H8]; · iexact H8
    isplitl [H9]; · iexact H9
    iexact H10
  iintro ⟨H1, H2, H3, ⟨%g4, H4⟩, ⟨%g5, H5⟩, ⟨%g6, H6⟩, H7, H8, H9, H10⟩
  isplitl [H7 H8 H9 H10 Hp]
  · isplitr [Hp]
    · isplitl [H7]; · iexact H7
      isplitl [H8]; · iexact H8
      isplitl [H9]; · iexact H9
      iexact H10
    iexact Hp
  isplitl [Ho]; · iexact Ho
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

set_option backward.isDefEq.respectTransparency.types false in
/-- Every weakly fair execution ends, every input array at its contents at the region's entry and every counter at zero. -/
theorem run_frame : θ_run defs (onTc (τ := τ) (main (F := F))) (s₀ m ρ)
    (fun r => Pipeline.RDat.FramePost cfg0 (fun c => (fdats m 0 c).toRForget forgets) (V m) r ∧ r.2.sem = fun _ => 0) :=
  Pipeline.θ_run_frame_forget (Q' := _) cfgs (fdats m) (0 : Fin 1) launch0 defs₀ 𝒱₀ forgets m ρ main
    (hbody := fun c => (fbody_obligation m c).loose) (hshare := fun c => (fdats m 0 c).share_full fun _ => rfl)
    (howed := fun _ _ => rfl) (V := V m) (hmain := hmain m 𝒱₀) (hA := fun _ _ => rfl) (hΦ := fun _ _ => rfl)

/-- An input window's clause of the frame's post. -/
theorem post_in {r} (h : Pipeline.RDat.FramePost cfg0 (fun c => (fdats m 0 c).toRForget forgets) (V m) r) (c : Dev nD) (w : Fin cfg0.W)
    (hin : (cfg0.win w).isOut = false) :
    r.2.mem ((cfg0.spec w).arr.view.loc (c.tc : Thread nD τ)) = V m c (Pipeline.arrRef spec0 w) :=
  h.arr_in c w hin

/-- The frame: the run ends with the argument arrays as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨((h.1 c).2 main_arg0 (Pipeline.mem_restRefs_of main_arg0 (by decide) (by decide))).trans (V_main_arg0 m c),
      (post_in m h.1 c 1 rfl).trans (V_main_arg1 m c), (post_in m h.1 c 2 rfl).trans (V_main_arg2 m c)⟩, h.2⟩) (run_frame m ρ)

end Cert.KernelIdeal.Hand

end
-- ==== Proof.PI.Grid.lean ====
/-
  The grid: each point takes every lane's running top two ten chunks of 128 vocabulary rows further, and the last
  point's reduction over the lanes is the top two of the whole row.
-/
module

public import proofs.«01_k».proof.Proof.PI.Step
public import proofs.«01_k».proof.Proof.PI.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Cert.Math (codeOf rowOf rowOf_of_lt term logit Top2 pass)

/-! ## The logits, of the argument arrays -/

/-- Row `b` of the activations. -/
def gx (x : Vec Ideal S48x1x3584 .bf16) (b : Fin 48) : ℕ → EReal := rowOf 0 fun k : Fin 3584 => (x (ix3 b 0 k) : EReal)

/-- Row `r` of the packed weights. -/
def gw (w : Vec Ideal S32000x1792 .i8) (r : Fin 32000) : ℕ → BitVec 8 := rowOf 0#8 fun k : Fin 1792 => (w (ix2 r k) : BitVec 8)

/-- Row `r` of the scales. -/
def gs (s : Vec Ideal S32000x112 .bf16) (r : Fin 32000) : ℕ → EReal := rowOf 0 fun k : Fin 112 => (s (ix2 r k) : EReal)

/-- The logits of activation row `b`. -/
def logits (x : Vec Ideal S48x1x3584 .bf16) (w : Vec Ideal S32000x1792 .i8) (s : Vec Ideal S32000x112 .bf16) (b : Fin 48) : ℕ → EReal :=
  rowOf 0 fun r : Fin 32000 => logit (gx x b) (gw w r) (gs s r)

section

variable (c : Dev nD) (i : grid0.Coords)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x2x256 .bf16) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)
  (X1 : Held (F := Ideal) arg1) (X2 : Held (F := Ideal) arg2) (X3 : Held (F := Ideal) arg3) (s : Scr (F := Ideal) arg7 arg8 arg9 arg10)

/-- Every lane's running top two after `n` chunks of the sequences `L`. -/
def Good (L : Fin 48 → ℕ → EReal) (n : ℕ) (s : Scr (F := Ideal) arg7 arg8 arg9 arg10) : Prop :=
  ∀ (b : Fin 48) (l : Fin 128), ∃ p : ℕ, place arg7 arg8 arg9 arg10 s b l = BitVec.ofNat 32 p
    ∧ Top2 (fun j => L b (j * 128 + l.val)) n (best arg7 arg8 arg9 arg10 s b l) (second arg7 arg8 arg9 arg10 s b l) p

/-- The scratch as the first point initialises it: nothing seen. -/
theorem good_init (L : Fin 48 → ℕ → EReal) : Good arg7 arg8 arg9 arg10 L 0 (scrInit arg7 arg8 arg9 arg10 s) := by
  intro b l
  have e8 : best arg7 arg8 arg9 arg10 (scrInit arg7 arg8 arg9 arg10 s) b l = ⊥ := (read_whole arg8 _ _ z2 _ _ _ _).trans (pay1_at b l)
  have e9 : second arg7 arg8 arg9 arg10 (scrInit arg7 arg8 arg9 arg10 s) b l = ⊥ := (read_whole arg9 _ _ z2 _ _ _ _).trans (pay2_at b l)
  have e10 : place arg7 arg8 arg9 arg10 (scrInit arg7 arg8 arg9 arg10 s) b l = 0#32 := (read_whole arg10 _ _ z2 _ _ _ _).trans (pay3_at b l)
  rw [e8, e9, e10]
  exact ⟨0, rfl, Top2.zero _⟩

theorem trips1 : k0_t1_loop.trips = 5 := by decide

/-- The loop over the five tiles at grid point `a`. -/
theorem good_loop (L : Fin 48 → ℕ → EReal) (a : Fin 25)
    (hL : ∀ (b : Fin 48) (r : Fin 1280), L b (1280 * a.val + r.val) = blockLogit arg1 arg2 arg3 X1 X2 X3 b r)
    (h : Good arg7 arg8 arg9 arg10 L (10 * a.val) s) :
    Good arg7 arg8 arg9 arg10 L (10 * (a.val + 1))
      (scrAt c i arg1 harg1 arg2 harg2 arg3 harg3 arg4 harg4 arg5 harg5 arg6 harg6 arg7 harg7 arg8 harg8 arg9 harg9 arg10 harg10 (BitVec.ofNat 32 a.val) X1 X2 X3 s k0_t1_loop.trips) := by
  have key : ∀ n ≤ k0_t1_loop.trips, Good arg7 arg8 arg9 arg10 L ((5 * a.val + n) * 2)
      (scrAt c i arg1 harg1 arg2 harg2 arg3 harg3 arg4 harg4 arg5 harg5 arg6 harg6 arg7 harg7 arg8 harg8 arg9 harg9 arg10 harg10 (BitVec.ofNat 32 a.val) X1 X2 X3 s n) := by
    intro n
    induction n with
    | zero => intro _; rw [scrAt, show (5 * a.val + 0) * 2 = 10 * a.val by omega]; exact h
    | succ n ih =>
      intro hn b l
      refine step_top2 c i arg1 harg1 arg2 harg2 arg3 harg3 arg4 harg4 arg5 harg5 arg6 harg6 arg7 harg7 arg8 harg8 arg9 harg9 arg10 harg10 X1 X2 X3 _ a ⟨n, hn⟩ b l _ ?_ ?_
        (ih (by omega) b l) _ (by rw [scrAt, dif_pos (show n < k0_t1_loop.trips from hn)])
      · rw [← hL]; refine congrArg (L b) ?_; simp only [tileRow]; omega
      · rw [← hL]; refine congrArg (L b) ?_; simp only [tileRow]; omega
  have := key _ le_rfl
  rw [trips1] at this ⊢
  rw [show 10 * (a.val + 1) = (5 * a.val + 5) * 2 by omega]
  exact this

/-- The three results at the last point: the whole row's pass. -/
theorem good_final (L : Fin 48 → ℕ → EReal) (h : Good arg7 arg8 arg9 arg10 L 250 s) (b : Fin 48) :
    (k0_pay6 (F := Ideal) (arg8.view.readAt (Elt Ideal) (Rect.unit (s := S48x128) ![0, 0] S48x128.size inb_S48x128_S48x128_0_0).toLoadRect s.f8) (ix2 b 0) : EReal)
        = (pass (L b) 32000).1
      ∧ (k0_pay9 (F := Ideal) (arg8.view.readAt (Elt Ideal) (Rect.unit (s := S48x128) ![0, 0] S48x128.size inb_S48x128_S48x128_0_0).toLoadRect s.f8)
          (arg10.view.readAt (Elt Ideal) (Rect.unit (s := S48x128) ![0, 0] S48x128.size inb_S48x128_S48x128_0_0).toLoadRect s.f10)
          (arg9.view.readAt (Elt Ideal) (Rect.unit (s := S48x128) ![0, 0] S48x128.size inb_S48x128_S48x128_0_0).toLoadRect s.f9) (ix2 b 0) : EReal)
        = (pass (L b) 32000).1 - (pass (L b) 32000).2.1
      ∧ k0_pay8 (F := Ideal) (arg8.view.readAt (Elt Ideal) (Rect.unit (s := S48x128) ![0, 0] S48x128.size inb_S48x128_S48x128_0_0).toLoadRect s.f8)
          (arg10.view.readAt (Elt Ideal) (Rect.unit (s := S48x128) ![0, 0] S48x128.size inb_S48x128_S48x128_0_0).toLoadRect s.f10) (ix2 b 0)
        = BitVec.ofNat 32 (pass (L b) 32000).2.2 := by
  obtain ⟨q, p, T, h9, h8⟩ := final_at (N := 250) (by decide) le_rfl (L b)
    (arg8.view.readAt (Elt Ideal) (Rect.unit (s := S48x128) ![0, 0] S48x128.size inb_S48x128_S48x128_0_0).toLoadRect s.f8)
    (arg9.view.readAt (Elt Ideal) (Rect.unit (s := S48x128) ![0, 0] S48x128.size inb_S48x128_S48x128_0_0).toLoadRect s.f9)
    (arg10.view.readAt (Elt Ideal) (Rect.unit (s := S48x128) ![0, 0] S48x128.size inb_S48x128_S48x128_0_0).toLoadRect s.f10) b (fun l => by
      obtain ⟨p, hp, ht⟩ := h b l
      refine ⟨p, (readAt_whole arg10 _ _ z2 _ _).trans hp, ?_⟩
      convert ht using 1
      · exact readAt_whole arg8 _ _ z2 _ _
      · exact readAt_whole arg9 _ _ z2 _ _)
  obtain ⟨e1, e2, e3⟩ := T.eq_pass (by decide)
  exact ⟨e1, h9.trans (by rw [e1, e2]), h8.trans (by rw [e3])⟩

end

/-! ## The blocks, of the argument arrays -/

section

variable (m : (ℓ : Loc nD τ sig) → Buf (Elt Ideal) ℓ) (c : Dev nD)

/-- Every window's block index at every point. -/
theorem idx : ∀ t : Fin cfg0.N, win0_0.index t = ![0, 0] ∧ win0_1.index t = ![t.val, 0] ∧ win0_2.index t = ![t.val, 0] :=
  (by decide +kernel : ∀ t : Fin grid0.N, _)

theorem iblk0_at (t : Fin cfg0.N) (b : Fin 48) (k : Fin 3584) :
    (iblk m c 0 t (ix2 b k) : EReal) = m ((c : Thread nD τ).loc main_arg0) (ix3 b 0 k) := by
  blk_ext! [iblk, V, idx t]

theorem iblk1_at (t : Fin cfg0.N) (r : Fin 1280) (k : Fin 1792) (h : 1280 * t.val + r.val < 32000) :
    (iblk m c 1 t (ix2 r k) : BitVec 8) = m ((c : Thread nD τ).loc main_arg1) (ix2 ⟨1280 * t.val + r.val, h⟩ k) := by
  blk_ext! [iblk, V, idx t]

theorem iblk2_at (t : Fin cfg0.N) (r : Fin 1280) (k : Fin 112) (h : 1280 * t.val + r.val < 32000) :
    (iblk m c 2 t (ix2 r k) : EReal) = m ((c : Thread nD τ).loc main_arg2) (ix2 ⟨1280 * t.val + r.val, h⟩ k) := by
  blk_ext! [iblk, V, idx t]

end

end Cert.KernelIdeal.Hand

end
-- ==== Proof.PI.Value.lean ====
/-
  The kernel's value: the run with its three result arrays named, each the pass over the row of logits.
-/
module

public import proofs.«01_k».proof.Proof.PI.Grid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.Math (codeOf rowOf rowOf_of_lt term logit Top2 pass)

attribute [local irreducible] Cert.Math.pass

/-- The resource algebra: the frame kit's. -/
local notation "𝕄" => MT nD τ sig Unit (Elt Ideal) ℕ (UR sig nD τ) ℕ

variable (m : (ℓ : Loc nD τ sig) → Buf (Elt Ideal) ℓ) (ρ : Dev nD → PrngReg)

/-- The rows of logits of core `c`'s arguments. -/
def L (c : Dev nD) : Fin 48 → ℕ → EReal :=
  logits (m ((c : Thread nD τ).loc main_arg0)) (m ((c : Thread nD τ).loc main_arg1)) (m ((c : Thread nD τ).loc main_arg2))

/-- The token: the first place of the greatest logit. -/
def tokens (c : Dev nD) : Vec Ideal S48x1 .i32 := fun j => BitVec.ofNat 32 (pass (L m c (j 0)) 32000).2.2

/-- The margin: the greatest logit less the second. -/
def margins (c : Dev nD) : FVec Ideal S48x1 .f32 := fun j => ((pass (L m c (j 0)) 32000).1 - (pass (L m c (j 0)) 32000).2.1 : EReal)

/-- The top: the greatest logit. -/
def tops (c : Dev nD) : FVec Ideal S48x1 .f32 := fun j => ((pass (L m c (j 0)) 32000).1 : EReal)

/-- The four scratch buffers. -/
abbrev ScrW := Scr (F := Ideal) (Memref.whole cc0_scratch0) (Memref.whole cc0_scratch1) (Memref.whole cc0_scratch2) (Memref.whole cc0_scratch3)

/-- The invariant before point `n`: every lane's top two of the chunks the points before it have seen. -/
def Inv (c : Dev nD) (n : ℕ) : sProp 𝕄 :=
  iprop((∃ s : ScrW, ⌜n = 0 ∨ Good _ _ _ _ (L m c) (10 * n) s⌝
      ∗ pt c (Memref.whole cc0_scratch0) s.f7 ∗ pt c (Memref.whole cc0_scratch1) s.f8 ∗ pt c (Memref.whole cc0_scratch2) s.f9 ∗ pt c (Memref.whole cc0_scratch3) s.f10)
    ∗ ∃ r, prngReg c r)

/-- The proof data: each input's buffer stays at its block; the results' buffers end at the row's pass. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tokens m c
    | ⟨4, _⟩ => margins m c
    | ⟨5, _⟩ => tops m c
  Φ t := Inv m c t.val
  q _ := fullShare
  owed _ := 0

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tokens m c := by dsimp only [dats]
theorem after0_4 (c : Dev nD) (t : Fin cfg0.N) : (dats m 0 c).after 4 t = margins m c := by dsimp only [dats]
theorem after0_5 (c : Dev nD) (t : Fin cfg0.N) : (dats m 0 c).after 5 t = tops m c := by dsimp only [dats]

theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d

section

variable (c : Dev nD) (t : Fin cfg0.N)
  (arg1 : Memref sig .tc .vmem S48x3584 .bf16) (harg1 : arg1.IsWhole) (arg2 : Memref sig .tc .vmem S1280x1792 .i8) (harg2 : arg2.IsWhole)
  (arg3 : Memref sig .tc .vmem S1280x112 .bf16) (harg3 : arg3.IsWhole) (arg4 : Memref sig .tc .vmem S48x1 .i32) (harg4 : arg4.IsWhole)
  (arg5 : Memref sig .tc .vmem S48x1 .f32) (harg5 : arg5.IsWhole) (arg6 : Memref sig .tc .vmem S48x1 .f32) (harg6 : arg6.IsWhole)
  (arg7 : Memref sig .tc .vmem S2x5x56x2x256 .bf16) (harg7 : arg7.IsWhole) (arg8 : Memref sig .tc .vmem S48x128 .f32) (harg8 : arg8.IsWhole)
  (arg9 : Memref sig .tc .vmem S48x128 .f32) (harg9 : arg9.IsWhole) (arg10 : Memref sig .tc .vmem S48x128 .i32) (harg10 : arg10.IsWhole)
  (X1 : Held (F := Ideal) arg1) (X2 : Held (F := Ideal) arg2) (X3 : Held (F := Ideal) arg3)
  (h1 : arg1.view.read (Elt Ideal) X1 = iblk m c 0 t) (h2 : arg2.view.read (Elt Ideal) X2 = iblk m c 1 t) (h3 : arg3.view.read (Elt Ideal) X3 = iblk m c 2 t)

include h1 h2 h3 in
/-- A point's blocks give its 1280 rows' logits. -/
theorem L_block (b : Fin 48) (r : Fin 1280) : L m c b (1280 * t.val + r.val) = blockLogit arg1 arg2 arg3 X1 X2 X3 b r := by
  have ht : t.val < 25 := t.isLt
  have hr : 1280 * t.val + r.val < 32000 := by omega
  have e1 : xRow arg1 X1 b = gx (m ((c : Thread nD τ).loc main_arg0)) b := by
    unfold xRow gx; rw [h1]; exact congrArg (rowOf 0) (funext fun k => iblk0_at m c t b k)
  have e2 : wRow arg2 X2 r = gw (m ((c : Thread nD τ).loc main_arg1)) ⟨_, hr⟩ := by
    unfold wRow gw; rw [h2]; exact congrArg (rowOf 0#8) (funext fun k => iblk1_at m c t r k hr)
  have e3 : sRow arg3 X3 r = gs (m ((c : Thread nD τ).loc main_arg2)) ⟨_, hr⟩ := by
    unfold sRow gs; rw [h3]; exact congrArg (rowOf 0) (funext fun k => iblk2_at m c t r k hr)
  unfold L logits blockLogit
  rw [rowOf_of_lt _ _ _ hr, e1, e2, e3]

/-- The coordinate of a point is its number. -/
theorem coord_val : ∀ t : Fin cfg0.N, (grid0.coords t 0).val = t.val := by decide

include h1 h2 h3 in
/-- The body at point `t`: the scratch is taken on, and at the last point the three results are written. -/
theorem body_value (E : Set ℕ) (s : Scr (F := Ideal) arg7 arg8 arg9 arg10)
    (hs : t.val = 0 ∨ Good arg7 arg8 arg9 arg10 (L m c) (10 * t.val) s)
    (f4 : Held (F := Ideal) arg4) (f5 : Held (F := Ideal) arg5) (f6 : Held (F := Ideal) arg6) (K : PUnit → sProp 𝕄) :
    iprop(TripS c arg1 arg2 arg3 arg7 arg8 arg9 arg10 X1 X2 X3 s ∗ pt c arg4 f4 ∗ pt c arg5 f5 ∗ pt c arg6 f6
      ∗ (iprop(∃ s' g4 g5 g6, ⌜Good arg7 arg8 arg9 arg10 (L m c) (10 * (t.val + 1)) s'
            ∧ (t.val ≠ 24 → g4 = f4 ∧ g5 = f5 ∧ g6 = f6)
            ∧ (t.val = 24 → arg4.view.read (Elt Ideal) g4 = tokens m c ∧ arg5.view.read (Elt Ideal) g5 = margins m c ∧ arg6.view.read (Elt Ideal) g6 = tops m c)⌝
          ∗ TripS c arg1 arg2 arg3 arg7 arg8 arg9 arg10 X1 X2 X3 s' ∗ pt c arg4 g4 ∗ pt c arg5 g5 ∗ pt c arg6 g6) -∗ K ⟨⟩))
      ⊢ wp frame (wpE (defs₀ (F := Ideal)) 𝒱₀ (c : Thread nD τ) none) E
          (cc0_q4_head_top1 (F := Ideal) (grid0.coords t) arg1 harg1 arg2 harg2 arg3 harg3 arg4 harg4 arg5 harg5 arg6 harg6 arg7 harg7 arg8 harg8 arg9 harg9 arg10 harg10) K := by
  have hL := L_block m c t arg1 arg2 arg3 X1 X2 X3 h1 h2 h3
  have hgo : ∀ s, Good arg7 arg8 arg9 arg10 (L m c) (10 * t.val) s → Good arg7 arg8 arg9 arg10 (L m c) (10 * (t.val + 1))
      (scrAt c (grid0.coords t) arg1 harg1 arg2 harg2 arg3 harg3 arg4 harg4 arg5 harg5 arg6 harg6 arg7 harg7 arg8 harg8 arg9 harg9 arg10 harg10
        (BitVec.ofNat 32 (grid0.coords t 0).val) X1 X2 X3 s k0_t1_loop.trips) := fun s h => by
    rw [coord_val]
    exact good_loop c (grid0.coords t) arg1 harg1 arg2 harg2 arg3 harg3 arg4 harg4 arg5 harg5 arg6 harg6 arg7 harg7 arg8 harg8 arg9 harg9 arg10 harg10 X1 X2 X3 s (L m c) t hL h
  iintro ⟨H, H4, H5, H6, HK⟩
  by_cases hl : t.val = 24
  · have hg := hgo s (hs.resolve_left (by omega))
    generalize hs' : (scrAt c (grid0.coords t) arg1 harg1 arg2 harg2 arg3 harg3 arg4 harg4 arg5 harg5 arg6 harg6 arg7 harg7 arg8 harg8 arg9 harg9 arg10 harg10
        (BitVec.ofNat 32 (grid0.coords t 0).val) X1 X2 X3 s k0_t1_loop.trips) = s' at hg
    iapply (body_last c (grid0.coords t) arg1 harg1 arg2 harg2 arg3 harg3 arg4 harg4 arg5 harg5 arg6 harg6 arg7 harg7 arg8 harg8 arg9 harg9 arg10 harg10
      (fun h => by have := (cond1_iff t).1 h; omega) ((cond2_iff t).2 hl) E X1 X2 X3 s s' hs'.symm f4 f5 f6 K)
    isplitl [H]; · iexact H
    isplitl [H4]; · iexact H4
    isplitl [H5]; · iexact H5
    isplitl [H6]; · iexact H6
    iintro ⟨H, H4, H5, H6⟩
    iapply HK
    iexists s', _, _, _
    isplitr; swap
    · isplitl [H]; · iexact H
      isplitl [H4]; · iexact H4
      isplitl [H5]; · iexact H5
      iexact H6
    ipureintro
    have hf := good_final arg7 arg8 arg9 arg10 s' (L m c) (by rw [hl] at hg; exact hg)
    refine ⟨hg, fun h => absurd hl h, fun _ => ⟨?_, ?_, ?_⟩⟩
    · funext j
      obtain ⟨b, l, rfl⟩ : ∃ b l, j = ix2 b l := ⟨j 0, j 1, by funext a; match a with | ⟨0, _⟩ => rfl | ⟨1, _⟩ => rfl⟩
      obtain rfl : l = 0 := Subsingleton.elim _ _
      exact (read_whole arg4 _ _ z2 _ _ _ _).trans (hf b).2.2
    · funext j
      obtain ⟨b, l, rfl⟩ : ∃ b l, j = ix2 b l := ⟨j 0, j 1, by funext a; match a with | ⟨0, _⟩ => rfl | ⟨1, _⟩ => rfl⟩
      obtain rfl : l = 0 := Subsingleton.elim _ _
      exact (read_whole arg5 _ _ z2 _ _ _ _).trans (hf b).2.1
    · funext j
      obtain ⟨b, l, rfl⟩ : ∃ b l, j = ix2 b l := ⟨j 0, j 1, by funext a; match a with | ⟨0, _⟩ => rfl | ⟨1, _⟩ => rfl⟩
      obtain rfl : l = 0 := Subsingleton.elim _ _
      exact (read_whole arg6 _ _ z2 _ _ _ _).trans (hf b).1
  · have hc2 : ¬ k0_cond2 (grid0.coords t) = 1#1 := fun h => hl ((cond2_iff t).1 h)
    by_cases h0 : t.val = 0
    · have hg := hgo (scrInit arg7 arg8 arg9 arg10 s) (by rw [h0]; exact good_init arg7 arg8 arg9 arg10 s (L m c))
      iapply (body_first c (grid0.coords t) arg1 harg1 arg2 harg2 arg3 harg3 arg4 harg4 arg5 harg5 arg6 harg6 arg7 harg7 arg8 harg8 arg9 harg9 arg10 harg10
        ((cond1_iff t).2 h0) hc2 E X1 X2 X3 s K)
      isplitl [H]; · iexact H
      iintro H
      iapply HK
      iexists _, f4, f5, f6
      isplitr; swap
      · isplitl [H]; · iexact H
        isplitl [H4]; · iexact H4
        isplitl [H5]; · iexact H5
        iexact H6
      ipureintro
      exact ⟨hg, fun _ => ⟨rfl, rfl, rfl⟩, fun h => absurd h hl⟩
    · have hg := hgo s (hs.resolve_left h0)
      iapply (body_mid c (grid0.coords t) arg1 harg1 arg2 harg2 arg3 harg3 arg4 harg4 arg5 harg5 arg6 harg6 arg7 harg7 arg8 harg8 arg9 harg9 arg10 harg10
        (fun h => h0 ((cond1_iff t).1 h)) hc2 E X1 X2 X3 s K)
      isplitl [H]; · iexact H
      iintro H
      iapply HK
      iexists _, f4, f5, f6
      isplitr; swap
      · isplitl [H]; · iexact H
        isplitl [H4]; · iexact H4
        isplitl [H5]; · iexact H5
        iexact H6
      ipureintro
      exact ⟨hg, fun _ => ⟨rfl, rfl, rfl⟩, fun h => absurd h hl⟩

end

/-- The result windows are stored at the last point alone. -/
theorem idle_out : ∀ t : Fin cfg0.N, idle0 3 (grid0.coords t) = !decide (t.val = 24)
    ∧ idle0 4 (grid0.coords t) = !decide (t.val = 24) ∧ idle0 5 (grid0.coords t) = !decide (t.val = 24) := by decide

/-- The body at every point: the inputs' buffers stay, the scratch is taken on, and the last point leaves the three results. -/

theorem body_obligation (c : Dev nD) : BodyObligation (dats m 0 c) (defs₀ (F := Ideal)) 𝒱₀ () Set.univ := fun t => by
  rw [bigSep_W0, bigSep_W0]
  sl_whnfR [defs₀, Defs.onTc]
  simp only [before0_0, before0_1, before0_2]
  rw [show (dats m 0 c).Φ t.succ = Inv m c (t.val + 1) from rfl, show (dats m 0 c).Φ t.castSucc = Inv m c t.val from rfl,
    show (dats m 0 c).owesAt () t.succ = (dats m 0 c).owesAt () t.castSucc from rfl, after0_0, after0_1, after0_2, after0_3, after0_4, after0_5]
  unfold owns Inv
  iintro ⟨⟨⟨%s, %hs, H7, H8, H9, H10⟩, Hp⟩, Ho, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  iapply (body_value m c t _ _ _ _ _ _ _ _ _ _ _ _ _ _ _ _ _ _ _ _ f1 f2 f3 hf1 hf2 hf3 Set.univ s hs f4 f5 f6 _)
  isplitl [H1 H2 H3 H7 H8 H9 H10]
  · isplitl [H1]; · iexact H1
    isplitl [H2]; · iexact H2
    isplitl [H3]; · iexact H3
    isplitl [H7]; · iexact H7
    isplitl [H8]; · iexact H8
    isplitl [H9]; · iexact H9
    iexact H10
  isplitl [H4]; · iexact H4
  isplitl [H5]; · iexact H5
  isplitl [H6]; · iexact H6
  iintro ⟨%s', %g4, %g5, %g6, %hg, ⟨H1, H2, H3, H7, H8, H9, H10⟩, H4, H5, H6⟩
  isplitl [H7 H8 H9 H10 Hp]
  · isplitr [Hp]
    · iexists s'
      isplitr; · ipureintro; exact Or.inr hg.1
      isplitl [H7]; · iexact H7
      isplitl [H8]; · iexact H8
      isplitl [H9]; · iexact H9
      iexact H10
    iexact Hp
  isplitl [Ho]; · iexact Ho
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  obtain ⟨-, hgm, hgl⟩ := hg
  by_cases hl : t.val = 24
  · obtain ⟨i3, i4, i5⟩ := idle_out t
    rw [decide_eq_true hl] at i3 i4 i5
    obtain ⟨r4, r5, r6⟩ := hgl hl
    isplitl [H4]
    · split
      · rename_i e; exact Bool.noConfusion (e.symm.trans i3)
      · iexists g4; isplitr; swap; · iexact H4
        ipureintro; exact r4
    isplitl [H5]
    · split
      · rename_i e; exact Bool.noConfusion (e.symm.trans i4)
      · iexists g5; isplitr; swap; · iexact H5
        ipureintro; exact r5
    · split
      · rename_i e; exact Bool.noConfusion (e.symm.trans i5)
      · iexists g6; isplitr; swap; · iexact H6
        ipureintro; exact r6
  · obtain ⟨i3, i4, i5⟩ := idle_out t
    rw [decide_eq_false hl] at i3 i4 i5
    have hm : ¬ t.val % 25 = 24 := by have ht : t.val < 25 := t.isLt; omega
    obtain ⟨rfl, rfl, rfl⟩ := hgm hl
    isplitl [H4]
    · split
      · split
        · iexists d4, g4; isplitr; swap; · iexact H4
          ipureintro; exact hf4
        · rename_i e; exact absurd ((flush0_3 t).1 e) hm
      · rename_i e; exact Bool.noConfusion (e.symm.trans i3)
    isplitl [H5]
    · split
      · split
        · iexists d5, g5; isplitr; swap; · iexact H5
          ipureintro; exact hf5
        · rename_i e; exact absurd ((flush0_4 t).1 e) hm
      · rename_i e; exact Bool.noConfusion (e.symm.trans i4)
    · split
      · split
        · iexists d6, g6; isplitr; swap; · iexact H6
          ipureintro; exact hf6
        · rename_i e; exact absurd ((flush0_5 t).1 e) hm
      · rename_i e; exact Bool.noConfusion (e.symm.trans i5)

/-- The scratch at anything gives the invariant before the first point, -/
theorem inv_in (c : Dev nD) : (ΦA spec0 c : sProp 𝕄) ⊢ Inv m c 0 := by
  rw [ΦA_eq]
  unfold Inv
  iintro ⟨⟨⟨%f7, H7⟩, ⟨%f8, H8⟩, ⟨%f9, H9⟩, ⟨%f10, H10⟩⟩, Hp⟩
  isplitr [Hp]
  · iexists (⟨f7, f8, f9, f10⟩ : ScrW)
    isplitr; · ipureintro; exact Or.inl rfl
    isplitl [H7]; · iexact H7
    isplitl [H8]; · iexact H8
    isplitl [H9]; · iexact H9
    iexact H10
  iexact Hp

/-- and the invariant gives it back. -/
theorem inv_out (c : Dev nD) (n : ℕ) : Inv m c n ⊢ (ΦA spec0 c : sProp 𝕄) := by
  rw [ΦA_eq]
  unfold Inv
  iintro ⟨⟨%s, -, H7, H8, H9, H10⟩, Hp⟩
  isplitr [Hp]
  · isplitl [H7]; · iexists _; iexact H7
    isplitl [H8]; · iexists _; iexact H8
    isplitl [H9]; · iexists _; iexact H9
    iexists _; iexact H10
  iexact Hp

set_option backward.isDefEq.respectTransparency.types false in
/-- Every weakly fair execution ends, every array at what the last write to it left and every counter at zero. -/
theorem run_value : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => inv_in m c) (hout := fun c => inv_out m c _)

/-- The last point. -/
abbrev tl : Fin cfg0.N := ⟨24, by decide⟩

theorem final3 (c : Dev nD) : (dats m 0 c).arrAt 3 cfg0.N = tokens m c := by
  refine (dats m 0 c).arrAt_eq_of_after_last 3 tl (by decide +kernel) _ fun j => ?_
  rw [after0_3]
  blk_simp
  rfl

theorem final4 (c : Dev nD) : (dats m 0 c).arrAt 4 cfg0.N = margins m c := by
  refine (dats m 0 c).arrAt_eq_of_after_last 4 tl (by decide +kernel) _ fun j => ?_
  rw [after0_4]
  blk_simp
  rfl

theorem final5 (c : Dev nD) : (dats m 0 c).arrAt 5 cfg0.N = tops m c := by
  refine (dats m 0 c).arrAt_eq_of_after_last 5 tl (by decide +kernel) _ fun j => ?_
  rw [after0_5]
  blk_simp
  rfl

/-- The kernel's run: its three results the passes over the rows of logits, its arguments as they were. -/
theorem run_results : θ_run defs (onTc (τ := τ) (main (F := Ideal))) ⟨m, fun _ => 0, ρ⟩ (fun r => ∀ c : Dev nD,
      r.2.mem ((c.tc : Thread nD τ).loc main_v1_0) = tokens m c
      ∧ r.2.mem ((c.tc : Thread nD τ).loc main_v1_1) = margins m c
      ∧ r.2.mem ((c.tc : Thread nD τ).loc main_v1_2) = tops m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), ((h.1 c).1 5).trans (final5 m c),
      ((h.1 c).2 main_arg0 (Pipeline.mem_restRefs_of main_arg0 (by decide) (by decide))).trans (V_main_arg0 m c),
      (((h.1 c).1 1).trans ((dats m 0 c).arrAt_in 1 rfl _)).trans (V_main_arg1 m c),
      (((h.1 c).1 2).trans ((dats m 0 c).arrAt_in 2 rfl _)).trans (V_main_arg2 m c)⟩) (run_value m ρ)

end Cert.KernelIdeal.Hand

end
-- ==== Proof.Math.Pick.lean ====
/-
  The argmax reducer: of (value, place) pairs, folded in any order, it keeps the greatest value at its least place.
-/
module

public import proofs.«01_k».proof.Proof.Math.Top2

@[expose] public section

namespace Cert.Math

/-- A binary choice: its value is one of its operands', and neither operand is better. `B p q` reads «`q` is no better than `p`». -/
theorem foldl_pick {α : Type} (f : α → α → α) (B : α → α → Prop) (refl : ∀ p, B p p) (trans : ∀ p q r, B p q → B q r → B p r)
    (hf : ∀ p q, (f p q = p ∨ f p q = q) ∧ B (f p q) p ∧ B (f p q) q) :
    ∀ (l : List α) (a : α), (l.foldl f a = a ∨ l.foldl f a ∈ l) ∧ B (l.foldl f a) a ∧ ∀ q ∈ l, B (l.foldl f a) q
  | [], a => ⟨Or.inl rfl, refl a, fun _ h => absurd h (List.not_mem_nil)⟩
  | c :: l, a => by
    obtain ⟨hm, ha, hl⟩ := foldl_pick f B refl trans hf l (f a c)
    obtain ⟨he, hfa, hfc⟩ := hf a c
    rw [List.foldl_cons]
    refine ⟨?_, trans _ _ _ ha hfa, ?_⟩
    · rcases hm with e | hm
      · rcases he with h | h
        · exact Or.inl (e.trans h)
        · exact Or.inr (by rw [e, h]; exact List.mem_cons_self)
      · exact Or.inr (List.mem_cons_of_mem _ hm)
    · intro q hq
      rcases List.mem_cons.1 hq with rfl | hq
      · exact trans _ _ _ ha hfc
      · exact hl q hq

/-- The top two of a row from its greatest value, the first place of it, and the greatest of the other places. -/
theorem top2_of_folds {N : ℕ} (v : ℕ → EReal) (hN : 0 < N) (p : ℕ) (hp : p < N) (hmax : ∀ j < N, v j ≤ v p) (hfirst : ∀ j < p, v j < v p) :
    Top2 v N (Finset.univ.fold max ⊥ fun k : Fin N => v k) (Finset.univ.fold max ⊥ fun k : Fin N => if (k : ℕ) = p then ⊥ else v k) p := by
  have e : (Finset.univ.fold max ⊥ fun k : Fin N => v k) = v p := by
    refine le_antisymm ?_ (le_fold (fun k : Fin N => v k) ⟨p, hp⟩)
    rcases fold_att (fun k : Fin N => v k) with h | ⟨k, h⟩
    · rw [h]; exact bot_le
    · rw [← h]; exact hmax k k.isLt
  rw [e]
  refine ⟨hmax, fun h => by omega, fun _ => hp, fun _ => rfl, hfirst, fun j hj hne => ?_, ?_⟩
  · have := le_fold (fun k : Fin N => if (k : ℕ) = p then ⊥ else v k) ⟨j, hj⟩
    rwa [if_neg (show ¬ ((⟨j, hj⟩ : Fin N) : ℕ) = p from hne)] at this
  · rcases fold_att (fun k : Fin N => if (k : ℕ) = p then ⊥ else v k) with h | ⟨k, h⟩
    · exact Or.inl h
    by_cases hk : (k : ℕ) = p
    · rw [if_pos hk] at h; exact Or.inl h.symm
    · rw [if_neg hk] at h; exact Or.inr ⟨k, k.isLt, hk, h⟩

end Cert.Math
-- ==== Proof.R.Logits.lean ====
/-
  The reference's value: its rows of logits.
-/
module

public import proofs.«01_k».proof.Proof.PI.Grid
public import proofs.«01_k».proof.Proof.Math.Pick
public import proofs.«01_k».proof.Proof.Gen.ReferenceIdeal
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic
open Cert.Math
open Cert.KernelIdeal.Hand (gx gw gs logits)

attribute [local instance] Cert.ReferenceIdeal.Gen.facts

variable (x : Vec Ideal S48x1x3584 .bf16) (w : Vec Ideal S32000x1792 .i8) (s : Vec Ideal S32000x112 .bf16)

/-! ## The rows of logits -/

/-- The scales, one for each packed column. -/
def scales : FVec Ideal S32000x1792 .bf16 := fun i =>
  shapeCast S32000x1792 (broadcastInDim S32000x112x16 ![0, 1] Facts₀.bcast_S32000x112_S32000x112x16_0_1 s) Facts₀.shapeCasts_S32000x112x16_S32000x1792 i

theorem scales_at (r : Fin 32000) (k : Fin 1792) : (scales s (ix2 r k) : EReal) = s (ix2 r ⟨k.val / 16, by have := k.isLt; omega⟩) := by
  pointwise [scales]

/-- The weights of the even columns, dequantised. -/
def lowW : FVec Ideal S32000x1792 .bf16 :=
  mulf (subf (sitofp .bf16 (andi (extui 32 w Facts₀.natLt_8_32) (broadcastInDim S32000x1792 ![] Facts₀.bcast_S_S32000x1792 (constantI S_ 32 15#32))))
    (broadcastInDim S32000x1792 ![] Facts₀.bcast_S_S32000x1792 (constant S_ .bf16 16640#16))) (scales s)

/-- The weights of the odd columns, dequantised. -/
def highW : FVec Ideal S32000x1792 .bf16 :=
  mulf (subf (sitofp .bf16 (Host.shrsi (extui 32 w Facts₀.natLt_8_32) (broadcastInDim S32000x1792 ![] Facts₀.bcast_S_S32000x1792 (constantI S_ 32 4#32))))
    (broadcastInDim S32000x1792 ![] Facts₀.bcast_S_S32000x1792 (constant S_ .bf16 16640#16))) (scales s)

theorem eight : Ideal.ofBits .bf16 16640#16 = ((8 : ℝ) : EReal) := by
  simp [Ideal.ofBits, Ideal.ieee]
  rw [← EReal.coe_mul]
  norm_num

theorem less_eight (n : BitVec 32) (k : ℕ) (h : n.toInt = ((k : ℕ) : ℤ)) :
    (FloatOps.sitofp (F := Ideal) .bf16 n : EReal) - Ideal.ofBits .bf16 16640#16 = ((((k : ℤ) - 8 : ℤ) : ℝ) : EReal) := by
  rw [eight, show (FloatOps.sitofp (F := Ideal) .bf16 n : EReal) = ((n.toInt : ℝ) : EReal) from rfl, h, ← EReal.coe_sub]
  push_cast
  rfl

theorem lowW_at (r : Fin 32000) (k : Fin 1792) :
    (lowW w s (ix2 r k) : EReal) = codeOf (w (ix2 r k)) 0 * s (ix2 r ⟨k.val / 16, by have := k.isLt; omega⟩) := by
  pointwise [lowW]
  rw [scales_at, less_eight _ _ (low_mask _)]
  rfl

theorem highW_at (r : Fin 32000) (k : Fin 1792) :
    (highW w s (ix2 r k) : EReal) = codeOf (w (ix2 r k)) 1 * s (ix2 r ⟨k.val / 16, by have := k.isLt; omega⟩) := by
  pointwise [highW]
  rw [scales_at]
  erw [less_eight _ _ (high_shift _)]
  rfl

/-- The even columns of the activations. -/
def evenX : FVec Ideal S48x1792 .bf16 :=
  Host.slice S48x1792 ![0, 0] ![1, 2] (fun i => shapeCast S48x3584 x Facts₀.shapeCasts_S48x1x3584_S48x3584 i) Facts₀.slicesBy_S48x3584_S48x1792_0s1_0s2

/-- The odd columns of the activations. -/
def oddX : FVec Ideal S48x1792 .bf16 :=
  Host.slice S48x1792 ![0, 1] ![1, 2] (fun i => shapeCast S48x3584 x Facts₀.shapeCasts_S48x1x3584_S48x3584 i) Facts₀.slicesBy_S48x3584_S48x1792_0s1_1s2

theorem evenX_at (b : Fin 48) (k : Fin 1792) : (evenX x (ix2 b k) : EReal) = x (ix3 b 0 ⟨2 * k.val, by have := k.isLt; omega⟩) := by
  pointwise [evenX]

theorem oddX_at (b : Fin 48) (k : Fin 1792) : (oddX x (ix2 b k) : EReal) = x (ix3 b 0 ⟨2 * k.val + 1, by have := k.isLt; omega⟩) := by
  pointwise [oddX]
  refine congrArg x ?_; congr 1; apply Fin.ext; show 1 + 2 * k.val = 2 * k.val + 1; omega

/-- The reference's logits. -/
def rLogits : FVec Ideal S48x32000 .f32 :=
  addf (Host.dotGeneral dot_S48x1792_S32000x1792_S48x32000_1_1_0_0_n_n none (evenX x) (lowW w s))
    (Host.dotGeneral dot_S48x1792_S32000x1792_S48x32000_1_1_0_0_n_n none (oddX x) (highW w s))

/-- A sum over the columns is the sum over the even and the sum over the odd ones. -/
theorem sum_even_odd (f : ℕ → EReal) (n : ℕ) :
    ∑ k ∈ Finset.range (2 * n), f k = (∑ k : Fin n, f (2 * k.val)) + ∑ k : Fin n, f (2 * k.val + 1) := by
  rw [Fin.sum_univ_eq_sum_range (fun k => f (2 * k)) n, Fin.sum_univ_eq_sum_range (fun k => f (2 * k + 1)) n]
  induction n with
  | zero => simp
  | succ n ih =>
    rw [show 2 * (n + 1) = 2 * n + 1 + 1 from rfl, Finset.sum_range_succ, Finset.sum_range_succ, Finset.sum_range_succ, Finset.sum_range_succ, ih]
    ac_rfl

theorem rLogits_at (b : Fin 48) (r : Fin 32000) : (rLogits x w s (ix2 b r) : EReal) = logits x w s b r.val := by
  unfold logits
  rw [rowOf_of_lt _ _ _ r.isLt]
  unfold logit
  rw [show 3584 = 2 * 1792 from rfl, sum_even_odd]
  pointwise [rLogits]
  refine congrArg₂ (· + ·) (Finset.sum_congr rfl fun k _ => ?_) (Finset.sum_congr rfl fun k _ => ?_)
  · have hk := k.isLt
    unfold term gx gw gs
    rw [evenX_at, lowW_at, rowOf_of_lt _ _ _ (show 2 * k.val < 3584 by omega), rowOf_of_lt _ _ _ (show 2 * k.val / 2 < 1792 by omega),
      rowOf_of_lt _ _ _ (show 2 * k.val / 32 < 112 by omega), show 2 * k.val % 2 = 0 by omega]
    congr 2
    · congr 2; congr 1; apply Fin.ext; show k.val = 2 * k.val / 2; omega
    · congr 2; apply Fin.ext; show k.val / 16 = 2 * k.val / 32; omega
  · have hk := k.isLt
    unfold term gx gw gs
    rw [oddX_at, highW_at, rowOf_of_lt _ _ _ (show 2 * k.val + 1 < 3584 by omega), rowOf_of_lt _ _ _ (show (2 * k.val + 1) / 2 < 1792 by omega),
      rowOf_of_lt _ _ _ (show (2 * k.val + 1) / 32 < 112 by omega), show (2 * k.val + 1) % 2 = 1 by omega]
    congr 2
    · congr 2; congr 1; apply Fin.ext; show k.val = (2 * k.val + 1) / 2; omega
    · congr 2; apply Fin.ext; show k.val / 16 = (2 * k.val + 1) / 32; omega

end Cert.ReferenceIdeal.Hand

end
-- ==== Proof.R.Rows.lean ====
/-
  The reference's value: the maximum of each row, the first place of it, and the maximum of the rest.
-/
module

public import proofs.«01_k».proof.Proof.PI.Grid
public import proofs.«01_k».proof.Proof.Math.Pick
public import proofs.«01_k».proof.Proof.Gen.ReferenceIdeal
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic
open Cert.Math
open Cert.KernelIdeal.Hand (gx gw gs logits)

attribute [local instance] Cert.ReferenceIdeal.Gen.facts
attribute [local irreducible] Cert.Math.pass

section

variable (y : FVec Ideal S48x32000 .f32)

/-- The maximum of each row. -/
def rowMax : FVec Ideal S48 .f32 :=
  Host.reduce (FloatOps.maximumf (F := Ideal) (φ := .f32)) y (constant S_ .f32 4286578688#32) Facts₀.reducesTo_S48x32000_S48_d1 Facts₀.h_S_

theorem rowMax_at (b : Fin 48) : (rowMax y (ix1 b) : EReal) = Finset.univ.fold max ⊥ fun k : Fin 32000 => (y (ix2 b k) : EReal) := by
  pointwise [rowMax]
  rw [Cert.KernelIdeal.Hand.ofBits_bot]

/-- «`q` is no better than `p`»: smaller, or equal and no earlier. -/
def NoBetter (p q : EReal × BitVec 32) : Prop := q.1 < p.1 ∨ q.1 = p.1 ∧ p.2.toInt ≤ q.2.toInt

theorem NoBetter.refl (p : EReal × BitVec 32) : NoBetter p p := Or.inr ⟨rfl, le_rfl⟩

theorem NoBetter.trans (p q r : EReal × BitVec 32) (h : NoBetter p q) (h' : NoBetter q r) : NoBetter p r := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

/-- The argmax reducer keeps the better of two pairs. -/
theorem reducer_pick (p q : EReal × BitVec 32) :
    (reducer_argmax_f32_i32 (F := Ideal) p q = p ∨ reducer_argmax_f32_i32 (F := Ideal) p q = q)
      ∧ NoBetter (reducer_argmax_f32_i32 (F := Ideal) p q) p ∧ NoBetter (reducer_argmax_f32_i32 (F := Ideal) p q) q := by
  obtain ⟨a, i⟩ := p
  obtain ⟨b, j⟩ := q
  have key : reducer_argmax_f32_i32 (F := Ideal) (a, i) (b, j) = if b < a then (a, i) else if a = b ∧ i.toInt < j.toInt then (a, i) else (b, j) := by
    unfold reducer_argmax_f32_i32
    simp only [FloatOps.cmpf, Ideal.cmp, IntOp.cmpi, IntOp.ori, IntOp.andi, Scalar.select]
    have e : (1 : BitVec 1) = 1#1 := rfl
    simp only [BitVec.slt_iff_toInt_lt, BitVec.slt, ne_eq, not_true_eq_false, decide_false, e]
    by_cases h : b < a
    · have hn : a ≠ b := h.ne'
      simp [h, hn]
    · by_cases h' : a = b
      · subst h'
        by_cases hi : i.toInt < j.toInt <;> simp [hi]
      · simp [h, h']
  rw [key]
  split_ifs with h h'
  · exact ⟨Or.inl rfl, NoBetter.refl _, Or.inl h⟩
  · exact ⟨Or.inl rfl, NoBetter.refl _, Or.inr ⟨h'.1.symm, h'.2.le⟩⟩
  · refine ⟨Or.inr rfl, ?_, NoBetter.refl _⟩
    rcases (not_lt.1 h).lt_or_eq with hl | hl
    · exact Or.inl hl
    · exact Or.inr ⟨hl, not_lt.1 fun hh => h' ⟨hl, hh⟩⟩

theorem word_toInt (n : ℕ) (hn : n < 32000) : (BitVec.ofNat 32 n).toInt = n := by
  rw [BitVec.toInt_eq_toNat_of_lt (by rw [BitVec.toNat_ofNat]; omega), BitVec.toNat_ofNat]; omega

theorem word_inj (n p : ℕ) (hn : n < 32000) (hp : p < 32000) (h : BitVec.ofNat 32 n = BitVec.ofNat 32 p) : n = p := by
  have := congrArg BitVec.toInt h
  rw [word_toInt n hn, word_toInt p hp] at this
  omega

/-- Choosing by the equality of two words. -/
theorem choose_eq (m n : BitVec 32) (a b : EReal) : (Scalar.select (IntOp.cmpi .eq m n) a b : EReal) = if m = n then a else b := by
  by_cases h : m = n
  · subst h; simp [IntOp.cmpi, Scalar.select]
  · have hb : (m == n) = false := beq_eq_false_iff_ne.2 h
    simp [IntOp.cmpi, Scalar.select, hb, h]

/-- The pairs that row `b`'s argmax folds. -/
theorem mem_fiber (b : Fin 48) (q : EReal × BitVec 32) :
    q ∈ Host.argReduceFiber y (iotaInDim S48x32000 32 1) Facts₀.reducesTo_S48x32000_S48_d1 (ix1 b)
      ↔ ∃ r : Fin 32000, q = (y (ix2 b r), BitVec.ofNat 32 r.val) := by
  unfold Host.argReduceFiber
  simp only [List.mem_map, List.mem_filter, List.mem_finRange, true_and, decide_eq_true_eq]
  constructor
  · rintro ⟨n, hn, rfl⟩
    generalize S48x32000.rowMajor.symm n = k at hn ⊢
    obtain ⟨b', r, rfl⟩ : ∃ b' r, k = ix2 b' r := ⟨k 0, k 1, by funext a; match a with | ⟨0, _⟩ => rfl | ⟨1, _⟩ => rfl⟩
    have hb : b' = b := Fin.ext (congrArg (fun j : S48.Idx => (j 0).val) hn)
    subst hb
    exact ⟨r, rfl⟩
  · rintro ⟨r, rfl⟩
    refine ⟨S48x32000.rowMajor (ix2 b r), ?_, ?_⟩
    · rw [Equiv.symm_apply_apply]
      funext a
      match a with | ⟨0, _⟩ => rfl
    · rw [Equiv.symm_apply_apply]
      rfl

/-- The argmax reducer over the pairs of a row finds the first place of the greatest value. -/
theorem foldl_arg (v : ℕ → EReal) (l : List (EReal × BitVec 32)) (hl : ∀ q, q ∈ l ↔ ∃ r : Fin 32000, q = (v r.val, BitVec.ofNat 32 r.val))
    (a : EReal) (ha : a = ⊥) :
    ∃ p < 32000, (l.foldl (reducer_argmax_f32_i32 (F := Ideal)) (a, 0#32)).2 = BitVec.ofNat 32 p ∧ (∀ j < 32000, v j ≤ v p) ∧ ∀ j < p, v j < v p := by
  obtain ⟨hm, -, hb⟩ := foldl_pick (reducer_argmax_f32_i32 (F := Ideal)) NoBetter NoBetter.refl NoBetter.trans reducer_pick l (a, 0#32)
  generalize l.foldl (reducer_argmax_f32_i32 (F := Ideal)) (a, 0#32) = R at hm hb ⊢
  have hall : ∀ j, j < 32000 → NoBetter R (v j, BitVec.ofNat 32 j) := fun j hj => hb _ ((hl _).2 ⟨⟨j, hj⟩, rfl⟩)
  rcases hm with e | hm
  · subst e ha
    have hbot : ∀ j, j < 32000 → v j = ⊥ := fun j hj => by
      rcases hall j hj with h | ⟨h, -⟩
      · exact absurd h not_lt_bot
      · exact h
    exact ⟨0, by decide, rfl, fun j hj => by rw [hbot j hj]; exact bot_le, fun j hj => absurd hj (Nat.not_lt_zero _)⟩
  · obtain ⟨r, rfl⟩ := (hl R).1 hm
    refine ⟨r.val, r.isLt, rfl, fun j hj => ?_, fun j hj => ?_⟩
    · rcases hall j hj with h | ⟨h, -⟩
      · exact h.le
      · exact h.le
    · have hj' : j < 32000 := hj.trans r.isLt
      rcases hall j hj' with h | ⟨-, h⟩
      · exact h
      · dsimp only at h
        rw [word_toInt _ r.isLt, word_toInt _ hj'] at h
        omega

/-- A host argmax over the extended reals is the fold of its reducer over the pairs it reduces. -/
theorem argReduce_fold {S T U : Shape} {axes : List (Fin S.rank)} (f : EReal × BitVec 32 → EReal × BitVec 32 → EReal × BitVec 32)
    (x : FVec Ideal S .f32) (z : S.Idx → BitVec 32) (ix : U.Idx → Ideal .f32) (iy : U.Idx → BitVec 32) (h : S.ReducesTo axes T)
    (hu : 0 < U.numel) (j : T.Idx) (a : EReal) (i : BitVec 32) (ha : ix (Shape.Idx.first hu) = a) (hi : iy (Shape.Idx.first hu) = i) :
    (Host.argReduce (F := Ideal) (φ := .f32) f x z ix iy h hu j).2 = ((Host.argReduceFiber x z h j).foldl f (a, i)).2 := by
  subst ha hi
  rw [Ideal.argReduce_eq_reduce2, Host.reduce2_eq_foldl_fiber]

/-- A host argmax over pairs that are a row's values with their places finds the first place of the greatest value. -/
theorem argReduce_first {S T U : Shape} {axes : List (Fin S.rank)} (x : FVec Ideal S .f32) (z : S.Idx → BitVec 32)
    (ix : U.Idx → Ideal .f32) (iy : U.Idx → BitVec 32) (h : S.ReducesTo axes T) (hu : 0 < U.numel) (j : T.Idx) (v : ℕ → EReal)
    (hl : ∀ q, q ∈ Host.argReduceFiber x z h j ↔ ∃ r : Fin 32000, q = (v r.val, BitVec.ofNat 32 r.val))
    (ha : ix (Shape.Idx.first hu) = (⊥ : EReal)) (hi : iy (Shape.Idx.first hu) = 0#32) :
    ∃ p < 32000, (Host.argReduce (F := Ideal) (φ := .f32) reducer_argmax_f32_i32 x z ix iy h hu j).2 = BitVec.ofNat 32 p
      ∧ (∀ j < 32000, v j ≤ v p) ∧ ∀ j < p, v j < v p := by
  rw [argReduce_fold _ x z ix iy h hu j ⊥ 0#32 ha hi]
  exact foldl_arg v _ hl ⊥ rfl

/- The argmax stays spelled out below: a name for it would make the kernel of the prover unfold the reduction. -/

/-- Row `b`'s argmax is the first place of its greatest value. -/
theorem rowArg_at (A : IVec S48 32)
    (hA : A = fun j => (Host.argReduce (F := Ideal) (φ := .f32) reducer_argmax_f32_i32 y (iotaInDim S48x32000 32 1)
      (constant S_ .f32 4286578688#32) (constantI S_ 32 0#32) Facts₀.reducesTo_S48x32000_S48_d1 Facts₀.h_S_ j).2)
    (b : Fin 48) (v : ℕ → EReal) (hv : ∀ r : Fin 32000, (y (ix2 b r) : EReal) = v r.val) :
    ∃ p < 32000, A (ix1 b) = BitVec.ofNat 32 p ∧ (∀ j < 32000, v j ≤ v p) ∧ ∀ j < p, v j < v p := by
  have e := argReduce_first y (iotaInDim S48x32000 32 1) (constant S_ .f32 4286578688#32) (constantI S_ 32 0#32)
    Facts₀.reducesTo_S48x32000_S48_d1 Facts₀.h_S_ (ix1 b) v (fun q => (mem_fiber y b q).trans (exists_congr fun r => by rw [hv]))
    Cert.KernelIdeal.Hand.ofBits_bot rfl
  rw [hA]
  exact e

/-- A row with the place `a` masked out. -/
def masked (a : IVec S48 32) : FVec Ideal S48x32000 .f32 :=
  select (cmpi .eq (iotaInDim S48x32000 32 1)
      (broadcastInDim S48x32000 ![0, 1] Facts₀.bcast_S48x1_S48x32000_0_1 (broadcastInDim S48x1 ![0] Facts₀.bcast_S48_S48x1_0 a)))
    (broadcastInDim S48x32000 ![] Facts₀.bcast_S_S48x32000 (constant S_ .f32 4286578688#32)) y

theorem masked_at (a : IVec S48 32) (b : Fin 48) (r : Fin 32000) (p : ℕ) (hp : p < 32000) (h : a (ix1 b) = BitVec.ofNat 32 p) :
    (masked y a (ix2 b r) : EReal) = if r.val = p then ⊥ else (y (ix2 b r) : EReal) := by
  pointwise [masked]
  rw [h, Cert.KernelIdeal.Hand.ofBits_bot]
  refine (choose_eq _ _ _ _).trans ?_
  by_cases e : r.val = p
  · rw [if_pos e, if_pos (congrArg (BitVec.ofNat 32) e)]
  · rw [if_neg e, if_neg fun h => e (word_inj _ _ r.isLt hp h)]

/-- A row's three results are its pass. -/
theorem row_pass (A : IVec S48 32)
    (hA : A = fun j => (Host.argReduce (F := Ideal) (φ := .f32) reducer_argmax_f32_i32 y (iotaInDim S48x32000 32 1)
      (constant S_ .f32 4286578688#32) (constantI S_ 32 0#32) Facts₀.reducesTo_S48x32000_S48_d1 Facts₀.h_S_ j).2)
    (b : Fin 48) (v : ℕ → EReal) (hv : ∀ r : Fin 32000, (y (ix2 b r) : EReal) = v r.val) :
    A (ix1 b) = BitVec.ofNat 32 (pass v 32000).2.2 ∧ (rowMax y (ix1 b) : EReal) = (pass v 32000).1
      ∧ (rowMax (masked y A) (ix1 b) : EReal) = (pass v 32000).2.1 := by
  obtain ⟨p, hp, harg, hmax, hfirst⟩ := rowArg_at y A hA b v hv
  obtain ⟨e1, e2, e3⟩ := (top2_of_folds v (by decide) p hp hmax hfirst).eq_pass (by decide)
  refine ⟨by rw [harg, e3], ?_, ?_⟩
  · rw [rowMax_at, ← e1]
    exact congrArg (Finset.univ.fold max ⊥) (funext hv)
  · rw [rowMax_at, ← e2]
    exact congrArg (Finset.univ.fold max ⊥) (funext fun r => by rw [masked_at y _ b r p hp harg, hv])

end

end Cert.ReferenceIdeal.Hand

end
-- ==== Proof.R.Value.lean ====
/-
  The reference's value: its three results, each the pass over the row of logits.
-/
module

public import proofs.«01_k».proof.Proof.R.Logits
public import proofs.«01_k».proof.Proof.R.Rows
public import proofs.«01_k».proof.Proof.Gen.ReferenceIdeal
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic
open Cert.Math
open Cert.KernelIdeal.Hand (gx gw gs logits)

attribute [local instance] Cert.ReferenceIdeal.Gen.facts
attribute [local irreducible] Cert.Math.pass

variable (x : Vec Ideal S48x1x3584 .bf16) (w : Vec Ideal S32000x1792 .i8) (s : Vec Ideal S32000x112 .bf16)

/-! ## The results -/

/-- A column of one read at a row. -/
theorem column_at {α : Type} (f : S48.Idx → α) (b : Fin 48) : shapeCast S48x1 f Facts₀.shapeCasts_S48_S48x1 (ix2 b 0) = f (ix1 b) := by
  pointwise

/-- The token: the argmax of each row. -/
def rToken : Vec Ideal S48x1 .i32 := fun i =>
  shapeCast S48x1 (fun j => (Host.argReduce (F := Ideal) (φ := .f32) reducer_argmax_f32_i32 (rLogits x w s) (iotaInDim S48x32000 32 1)
    (constant S_ .f32 4286578688#32) (constantI S_ 32 0#32) Facts₀.reducesTo_S48x32000_S48_d1 Facts₀.h_S_ j).2) Facts₀.shapeCasts_S48_S48x1 i

/-- The margin: the maximum of each row less the maximum of the rest. -/
def rMargin : FVec Ideal S48x1 .f32 := fun i =>
  shapeCast S48x1 (subf (rowMax (rLogits x w s)) (rowMax (masked (rLogits x w s)
    (fun j => (Host.argReduce (F := Ideal) (φ := .f32) reducer_argmax_f32_i32 (rLogits x w s) (iotaInDim S48x32000 32 1)
      (constant S_ .f32 4286578688#32) (constantI S_ 32 0#32) Facts₀.reducesTo_S48x32000_S48_d1 Facts₀.h_S_ j).2))))
    Facts₀.shapeCasts_S48_S48x1 i

/-- The top: the maximum of each row. -/
def rTop : FVec Ideal S48x1 .f32 := fun i => shapeCast S48x1 (rowMax (rLogits x w s)) Facts₀.shapeCasts_S48_S48x1 i

/-- The difference of two columns of one, read at a row. -/
theorem difference_at (f g : FVec Ideal S48 .f32) (b : Fin 48) :
    (shapeCast S48x1 (subf f g) Facts₀.shapeCasts_S48_S48x1 (ix2 b 0) : EReal) = (f (ix1 b) : EReal) - (g (ix1 b) : EReal) :=
  column_at (subf f g) b

theorem rToken_at (b : Fin 48) : rToken x w s (ix2 b 0) = BitVec.ofNat 32 (pass (logits x w s b) 32000).2.2 := by
  delta rToken
  exact (column_at _ b).trans (row_pass (rLogits x w s) _ rfl b _ (rLogits_at x w s b)).1

theorem rTop_at (b : Fin 48) : (rTop x w s (ix2 b 0) : EReal) = (pass (logits x w s b) 32000).1 :=
  (column_at (rowMax (rLogits x w s)) b).trans (row_pass (rLogits x w s) _ rfl b _ (rLogits_at x w s b)).2.1

theorem rMargin_at (b : Fin 48) : (rMargin x w s (ix2 b 0) : EReal) = (pass (logits x w s b) 32000).1 - (pass (logits x w s b) 32000).2.1 := by
  obtain ⟨-, h1, h2⟩ := row_pass (rLogits x w s) _ rfl b _ (rLogits_at x w s b)
  delta rMargin
  refine (difference_at _ _ b).trans ?_
  rw [h1, h2]

end Cert.ReferenceIdeal.Hand

end
-- ==== Proof.lean ====
module

public import proofs.«01_k».proof.Defs
public import proofs.«01_k».proof.Proof.P.Frame
public import proofs.«01_k».proof.Proof.PI.Value
public import proofs.«01_k».proof.Proof.R.Value
public import proofs.«01_k».proof.Proof.Gen.ReferenceIdeal
public import Idealize.ShloMosaic.Lib.Claim
public import Idealize.ShloMosaic.Lib.Quiescent
public import Idealize.ShloMosaic.Adequacy
public import Idealize.ShloMosaic.Init
public import Idealize.ShloMosaic.Lib.Bf16Pair
public import Idealize.ShloMosaic.Lib.Bf16PairInverse

@[expose] public section

set_option maxRecDepth 16384

noncomputable section

namespace Cert.Proof

open Idealize.ShloMosaic

/-- The rewrites of the idealization, each by its rule's statement. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The reference's run leaves its arguments as they were launched. -/
theorem args_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) := by
  hlo_run

/-- The reference's frame: its arguments, and every counter zero (it has none). -/
theorem frame_reference : Cert.quiescent_ReferenceIdeal (hReferenceIdeal := Cert.ReferenceIdeal.Gen.facts) :=
  fun m g _ => (θ_run Cert.ReferenceIdeal.defs _ _).mono
    (fun r h => ⟨h, sem_eq_zero_of_no_sems (by decide) r.2⟩) (args_reference m g)

/-- A `48 × 1` array is known from its rows. -/
theorem ext_rows {α : Type} {f g : Cert.KernelIdeal.S48x1.Idx → α} (h : ∀ b : Fin 48, f (ix2 b 0) = g (ix2 b 0)) : f = g := by
  funext j
  obtain ⟨b, l, rfl⟩ : ∃ b l, j = ix2 b l := ⟨j 0, j 1, by funext a; match a with | ⟨0, _⟩ => rfl | ⟨1, _⟩ => rfl⟩
  obtain rfl : l = 0 := Subsingleton.elim _ _
  exact h b

/-- Over the extended reals the kernel's token, margin and top are the reference's. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Hand.run_results m g
  · hlo_run
    · simp -implicitDefEqProofs only [StableHlo.TRef.toBuf, StableHlo.TRef.ofBuf, cast_cast, cast_eq]
      exact ext_rows (f := Cert.ReferenceIdeal.Hand.rToken _ _ _) fun b => Cert.ReferenceIdeal.Hand.rToken_at _ _ _ b
    · simp -implicitDefEqProofs only [StableHlo.TRef.toBuf, StableHlo.TRef.ofBuf, cast_cast, cast_eq]
      exact ext_rows (f := Cert.ReferenceIdeal.Hand.rMargin _ _ _) fun b => Cert.ReferenceIdeal.Hand.rMargin_at _ _ _ b
    · exact ext_rows (f := Cert.ReferenceIdeal.Hand.rTop _ _ _) fun b => Cert.ReferenceIdeal.Hand.rTop_at _ _ _ b

theorem claim : Cert.Claim :=
  ⟨Cert.Kernel.Gen.facts, Cert.KernelIdeal.Gen.facts, Cert.ReferenceIdeal.Gen.facts,
    fun m g _ => Cert.Kernel.Hand.frame_run m g, fun m g _ => Cert.KernelIdeal.Hand.frame_run m g, frame_reference, preserves, algebraic⟩

end Cert.Proof

end
